-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_finite_streams [hPre_finite_streams : Cert.Pre_finite_streams.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_finite_streams.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8)) (m ((c.tc : Thread Cert.MixOutIdeal.nD Cert.MixOutIdeal.τ).loc Cert.MixOutIdeal.main_arg9)) (m ((c.tc : Thread Cert.MixOutIdeal.nD Cert.MixOutIdeal.τ).loc Cert.MixOutIdeal.main_arg10)) (m ((c.tc : Thread Cert.MixOutIdeal.nD Cert.MixOutIdeal.τ).loc Cert.MixOutIdeal.main_arg11)) (m ((c.tc : Thread Cert.MixOutIdeal.nD Cert.MixOutIdeal.τ).loc Cert.MixOutIdeal.main_arg12)) (m ((c.tc : Thread Cert.MixOutIdeal.nD Cert.MixOutIdeal.τ).loc Cert.MixOutIdeal.main_arg13))) = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_finite_streams [hPre_finite_streams : Cert.Pre_finite_streams.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_finite_streams.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8)) (m ((c.tc : Thread Cert.MixOutRefIdeal.nD Cert.MixOutRefIdeal.τ).loc Cert.MixOutRefIdeal.main_arg9)) (m ((c.tc : Thread Cert.MixOutRefIdeal.nD Cert.MixOutRefIdeal.τ).loc Cert.MixOutRefIdeal.main_arg10)) (m ((c.tc : Thread Cert.MixOutRefIdeal.nD Cert.MixOutRefIdeal.τ).loc Cert.MixOutRefIdeal.main_arg11)) (m ((c.tc : Thread Cert.MixOutRefIdeal.nD Cert.MixOutRefIdeal.τ).loc Cert.MixOutRefIdeal.main_arg12)) (m ((c.tc : Thread Cert.MixOutRefIdeal.nD Cert.MixOutRefIdeal.τ).loc Cert.MixOutRefIdeal.main_arg13))) = (fun _ => 1#1)

def Pre_TopK (m : (ℓ : Loc Cert.TopK.nD Cert.TopK.τ Cert.TopK.sig) → Buf (Elt Bits) ℓ) : Prop :=
  True

def Pre_TopKIdeal (m : (ℓ : Loc Cert.TopKIdeal.nD Cert.TopKIdeal.τ Cert.TopKIdeal.sig) → Buf (Elt Ideal) ℓ) : Prop :=
  True

def Pre_TopKIdeal_finite_scores [hPre_finite_scores : Cert.Pre_finite_scores.Facts] (m : (ℓ : Loc Cert.TopKIdeal.nD Cert.TopKIdeal.τ Cert.TopKIdeal.sig) → Buf (Elt Ideal) ℓ) : Prop :=
  ∀ c : Dev Cert.TopKIdeal.nD,
    (Cert.Pre_finite_scores.fn (F := Ideal) (m ((c.tc : Thread Cert.TopKIdeal.nD Cert.TopKIdeal.τ).loc Cert.TopKIdeal.main_arg0)) (m ((c.tc : Thread Cert.TopKIdeal.nD Cert.TopKIdeal.τ).loc Cert.TopKIdeal.main_arg1)) (m ((c.tc : Thread Cert.TopKIdeal.nD Cert.TopKIdeal.τ).loc Cert.TopKIdeal.main_arg2))) = (fun _ => 1#1)

def Pre_TopKRefIdeal (m : (ℓ : Loc Cert.TopKRefIdeal.nD Cert.TopKRefIdeal.τ Cert.TopKRefIdeal.sig) → Buf (Elt Ideal) ℓ) : Prop :=
  True

def Pre_TopKRefIdeal_finite_scores [hPre_finite_scores : Cert.Pre_finite_scores.Facts] (m : (ℓ : Loc Cert.TopKRefIdeal.nD Cert.TopKRefIdeal.τ Cert.TopKRefIdeal.sig) → Buf (Elt Ideal) ℓ) : Prop :=
  ∀ c : Dev Cert.TopKRefIdeal.nD,
    (Cert.Pre_finite_scores.fn (F := Ideal) (m ((c.tc : Thread Cert.TopKRefIdeal.nD Cert.TopKRefIdeal.τ).loc Cert.TopKRefIdeal.main_arg0)) (m ((c.tc : Thread Cert.TopKRefIdeal.nD Cert.TopKRefIdeal.τ).loc Cert.TopKRefIdeal.main_arg1)) (m ((c.tc : Thread Cert.TopKRefIdeal.nD Cert.TopKRefIdeal.τ).loc Cert.TopKRefIdeal.main_arg2))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10)
      ∧ r.2.mem ((c.tc : Thread Cert.MixOut.nD Cert.MixOut.τ).loc Cert.MixOut.main_arg11) = m ((c.tc : Thread Cert.MixOut.nD Cert.MixOut.τ).loc Cert.MixOut.main_arg11)
      ∧ r.2.mem ((c.tc : Thread Cert.MixOut.nD Cert.MixOut.τ).loc Cert.MixOut.main_arg12) = m ((c.tc : Thread Cert.MixOut.nD Cert.MixOut.τ).loc Cert.MixOut.main_arg12)
      ∧ r.2.mem ((c.tc : Thread Cert.MixOut.nD Cert.MixOut.τ).loc Cert.MixOut.main_arg13) = m ((c.tc : Thread Cert.MixOut.nD Cert.MixOut.τ).loc Cert.MixOut.main_arg13))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
      ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
      ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13))
      ∧ r.2.sem = fun _ => 0)

def quiescent_MixOutIdeal_pre_finite_streams [hMixOutIdeal : Cert.MixOutIdeal.Facts] [hPre_finite_streams : Cert.Pre_finite_streams.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_finite_streams m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
      ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
      ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11)
      ∧ r.2.mem ((c.tc : Thread Cert.MixOutRefIdeal.nD Cert.MixOutRefIdeal.τ).loc Cert.MixOutRefIdeal.main_arg12) = m ((c.tc : Thread Cert.MixOutRefIdeal.nD Cert.MixOutRefIdeal.τ).loc Cert.MixOutRefIdeal.main_arg12)
      ∧ r.2.mem ((c.tc : Thread Cert.MixOutRefIdeal.nD Cert.MixOutRefIdeal.τ).loc Cert.MixOutRefIdeal.main_arg13) = m ((c.tc : Thread Cert.MixOutRefIdeal.nD Cert.MixOutRefIdeal.τ).loc Cert.MixOutRefIdeal.main_arg13))
      ∧ r.2.sem = fun _ => 0)

def quiescent_MixOutRefIdeal_pre_finite_streams [hMixOutRefIdeal : Cert.MixOutRefIdeal.Facts] [hPre_finite_streams : Cert.Pre_finite_streams.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_finite_streams m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11)
      ∧ r.2.mem ((c.tc : Thread Cert.MixOutRefIdeal.nD Cert.MixOutRefIdeal.τ).loc Cert.MixOutRefIdeal.main_arg12) = m ((c.tc : Thread Cert.MixOutRefIdeal.nD Cert.MixOutRefIdeal.τ).loc Cert.MixOutRefIdeal.main_arg12)
      ∧ r.2.mem ((c.tc : Thread Cert.MixOutRefIdeal.nD Cert.MixOutRefIdeal.τ).loc Cert.MixOutRefIdeal.main_arg13) = m ((c.tc : Thread Cert.MixOutRefIdeal.nD Cert.MixOutRefIdeal.τ).loc Cert.MixOutRefIdeal.main_arg13))
      ∧ r.2.sem = fun _ => 0)

def quiescent_TopK [hTopK : Cert.TopK.Facts] : Prop :=
  ∀ (m : (ℓ : Loc Cert.TopK.nD Cert.TopK.τ Cert.TopK.sig) → Buf (Elt Bits) ℓ) (g : Dev Cert.TopK.nD → PrngReg), Pre_TopK m →
    θ_run (Cert.TopK.defs (F := Bits)) (onTc (τ := Cert.TopK.τ) (Cert.TopK.main (F := Bits))) ⟨m, fun _ => 0, g⟩ (fun r => (∀ c : Dev Cert.TopK.nD,
      r.2.mem ((c.tc : Thread Cert.TopK.nD Cert.TopK.τ).loc Cert.TopK.main_arg0) = m ((c.tc : Thread Cert.TopK.nD Cert.TopK.τ).loc Cert.TopK.main_arg0)
      ∧ r.2.mem ((c.tc : Thread Cert.TopK.nD Cert.TopK.τ).loc Cert.TopK.main_arg1) = m ((c.tc : Thread Cert.TopK.nD Cert.TopK.τ).loc Cert.TopK.main_arg1)
      ∧ r.2.mem ((c.tc : Thread Cert.TopK.nD Cert.TopK.τ).loc Cert.TopK.main_arg2) = m ((c.tc : Thread Cert.TopK.nD Cert.TopK.τ).loc Cert.TopK.main_arg2))
      ∧ r.2.sem = fun _ => 0)

def quiescent_TopKIdeal [hTopKIdeal : Cert.TopKIdeal.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
      ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1)
      ∧ r.2.mem ((c.tc : Thread Cert.TopKIdeal.nD Cert.TopKIdeal.τ).loc Cert.TopKIdeal.main_arg2) = m ((c.tc : Thread Cert.TopKIdeal.nD Cert.TopKIdeal.τ).loc Cert.TopKIdeal.main_arg2))
      ∧ r.2.sem = fun _ => 0)

def quiescent_TopKIdeal_pre_finite_scores [hTopKIdeal : Cert.TopKIdeal.Facts] [hPre_finite_scores : Cert.Pre_finite_scores.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal_finite_scores m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
      ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1)
      ∧ r.2.mem ((c.tc : Thread Cert.TopKIdeal.nD Cert.TopKIdeal.τ).loc Cert.TopKIdeal.main_arg2) = m ((c.tc : Thread Cert.TopKIdeal.nD Cert.TopKIdeal.τ).loc Cert.TopKIdeal.main_arg2))
      ∧ r.2.sem = fun _ => 0)

def quiescent_TopKRefIdeal [hTopKRefIdeal : Cert.TopKRefIdeal.Facts] : Prop :=
  ∀ (m : (ℓ : Loc Cert.TopKRefIdeal.nD Cert.TopKRefIdeal.τ Cert.TopKRefIdeal.sig) → Buf (Elt Ideal) ℓ) (g : Dev Cert.TopKRefIdeal.nD → PrngReg), Pre_TopKRefIdeal m →
    θ_run (Cert.TopKRefIdeal.defs (F := Ideal)) (onTc (τ := Cert.TopKRefIdeal.τ) (Cert.TopKRefIdeal.main (F := Ideal))) ⟨m, fun _ => 0, g⟩ (fun r => (∀ c : Dev Cert.TopKRefIdeal.nD,
      r.2.mem ((c.tc : Thread Cert.TopKRefIdeal.nD Cert.TopKRefIdeal.τ).loc Cert.TopKRefIdeal.main_arg0) = m ((c.tc : Thread Cert.TopKRefIdeal.nD Cert.TopKRefIdeal.τ).loc Cert.TopKRefIdeal.main_arg0)
      ∧ r.2.mem ((c.tc : Thread Cert.TopKRefIdeal.nD Cert.TopKRefIdeal.τ).loc Cert.TopKRefIdeal.main_arg1) = m ((c.tc : Thread Cert.TopKRefIdeal.nD Cert.TopKRefIdeal.τ).loc Cert.TopKRefIdeal.main_arg1)
      ∧ r.2.mem ((c.tc : Thread Cert.TopKRefIdeal.nD Cert.TopKRefIdeal.τ).loc Cert.TopKRefIdeal.main_arg2) = m ((c.tc : Thread Cert.TopKRefIdeal.nD Cert.TopKRefIdeal.τ).loc Cert.TopKRefIdeal.main_arg2))
      ∧ r.2.sem = fun _ => 0)

def quiescent_TopKRefIdeal_pre_finite_scores [hTopKRefIdeal : Cert.TopKRefIdeal.Facts] [hPre_finite_scores : Cert.Pre_finite_scores.Facts] : Prop :=
  ∀ (m : (ℓ : Loc Cert.TopKRefIdeal.nD Cert.TopKRefIdeal.τ Cert.TopKRefIdeal.sig) → Buf (Elt Ideal) ℓ) (g : Dev Cert.TopKRefIdeal.nD → PrngReg), Pre_TopKRefIdeal_finite_scores m →
    θ_run (Cert.TopKRefIdeal.defs (F := Ideal)) (onTc (τ := Cert.TopKRefIdeal.τ) (Cert.TopKRefIdeal.main (F := Ideal))) ⟨m, fun _ => 0, g⟩ (fun r => (∀ c : Dev Cert.TopKRefIdeal.nD,
      r.2.mem ((c.tc : Thread Cert.TopKRefIdeal.nD Cert.TopKRefIdeal.τ).loc Cert.TopKRefIdeal.main_arg0) = m ((c.tc : Thread Cert.TopKRefIdeal.nD Cert.TopKRefIdeal.τ).loc Cert.TopKRefIdeal.main_arg0)
      ∧ r.2.mem ((c.tc : Thread Cert.TopKRefIdeal.nD Cert.TopKRefIdeal.τ).loc Cert.TopKRefIdeal.main_arg1) = m ((c.tc : Thread Cert.TopKRefIdeal.nD Cert.TopKRefIdeal.τ).loc Cert.TopKRefIdeal.main_arg1)
      ∧ r.2.mem ((c.tc : Thread Cert.TopKRefIdeal.nD Cert.TopKRefIdeal.τ).loc Cert.TopKRefIdeal.main_arg2) = m ((c.tc : Thread Cert.TopKRefIdeal.nD Cert.TopKRefIdeal.τ).loc Cert.TopKRefIdeal.main_arg2))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v8_0)) (v1 : (c : Dev Cert.InProjIdeal.nD) → Buf (Elt Ideal) ((c.tc : Thread Cert.InProjIdeal.nD Cert.InProjIdeal.τ).loc Cert.InProjIdeal.main_v8_1)) (v2 : (c : Dev Cert.InProjIdeal.nD) → Buf (Elt Ideal) ((c.tc : Thread Cert.InProjIdeal.nD Cert.InProjIdeal.τ).loc Cert.InProjIdeal.main_v8_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8_0) = v0 c
          ∧ r.2.mem ((c.tc : Thread Cert.InProjIdeal.nD Cert.InProjIdeal.τ).loc Cert.InProjIdeal.main_v8_1) = v1 c
          ∧ r.2.mem ((c.tc : Thread Cert.InProjIdeal.nD Cert.InProjIdeal.τ).loc Cert.InProjIdeal.main_v8_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v20) = v0 c
          ∧ r.2.mem ((c.tc : Thread Cert.InProjRefIdeal.nD Cert.InProjRefIdeal.τ).loc Cert.InProjRefIdeal.main_v21) = v1 c
          ∧ r.2.mem ((c.tc : Thread Cert.InProjRefIdeal.nD Cert.InProjRefIdeal.τ).loc Cert.InProjRefIdeal.main_v23) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_MixOut_MixOutIdeal : Prop :=
  IdealRules.named_const.Statement Cert.MixOutIdeal.κ "inv_sqrt_2" .f32 0x3F3504F3#32 (((Real.sqrt 2)⁻¹ : ℝ) : EReal)

def algebraic_MixOutIdeal_MixOutRefIdeal_pre_finite_streams [hMixOutIdeal : Cert.MixOutIdeal.Facts] [hMixOutRefIdeal : Cert.MixOutRefIdeal.Facts] [hPre_finite_streams : Cert.Pre_finite_streams.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_finite_streams m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)
      ∧ m' ((c.tc : Thread Cert.MixOutRefIdeal.nD Cert.MixOutRefIdeal.τ).loc Cert.MixOutRefIdeal.main_arg10) = m ((c.tc : Thread Cert.MixOutIdeal.nD Cert.MixOutIdeal.τ).loc Cert.MixOutIdeal.main_arg10)
      ∧ m' ((c.tc : Thread Cert.MixOutRefIdeal.nD Cert.MixOutRefIdeal.τ).loc Cert.MixOutRefIdeal.main_arg11) = m ((c.tc : Thread Cert.MixOutIdeal.nD Cert.MixOutIdeal.τ).loc Cert.MixOutIdeal.main_arg11)
      ∧ m' ((c.tc : Thread Cert.MixOutRefIdeal.nD Cert.MixOutRefIdeal.τ).loc Cert.MixOutRefIdeal.main_arg12) = m ((c.tc : Thread Cert.MixOutIdeal.nD Cert.MixOutIdeal.τ).loc Cert.MixOutIdeal.main_arg12)
      ∧ m' ((c.tc : Thread Cert.MixOutRefIdeal.nD Cert.MixOutRefIdeal.τ).loc Cert.MixOutRefIdeal.main_arg13) = m ((c.tc : Thread Cert.MixOutIdeal.nD Cert.MixOutIdeal.τ).loc Cert.MixOutIdeal.main_arg13)) →
    ∃ (v0 : (c : Dev Cert.MixOutIdeal.nD) → Buf (Elt Ideal) ((c.tc : Thread Cert.MixOutIdeal.nD Cert.MixOutIdeal.τ).loc Cert.MixOutIdeal.main_v9_0)) (v1 : (c : Dev Cert.MixOutIdeal.nD) → Buf (Elt Ideal) ((c.tc : Thread Cert.MixOutIdeal.nD Cert.MixOutIdeal.τ).loc Cert.MixOutIdeal.main_v9_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v9_0) = v0 c
          ∧ r.2.mem ((c.tc : Thread Cert.MixOutIdeal.nD Cert.MixOutIdeal.τ).loc Cert.MixOutIdeal.main_v9_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
          ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
          ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
          ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v60) = v0 c
          ∧ r.2.mem ((c.tc : Thread Cert.MixOutRefIdeal.nD Cert.MixOutRefIdeal.τ).loc Cert.MixOutRefIdeal.main_v79) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9)
          ∧ r.2.mem ((c.tc : Thread Cert.MixOutRefIdeal.nD Cert.MixOutRefIdeal.τ).loc Cert.MixOutRefIdeal.main_arg10) = m' ((c.tc : Thread Cert.MixOutRefIdeal.nD Cert.MixOutRefIdeal.τ).loc Cert.MixOutRefIdeal.main_arg10)
          ∧ r.2.mem ((c.tc : Thread Cert.MixOutRefIdeal.nD Cert.MixOutRefIdeal.τ).loc Cert.MixOutRefIdeal.main_arg11) = m' ((c.tc : Thread Cert.MixOutRefIdeal.nD Cert.MixOutRefIdeal.τ).loc Cert.MixOutRefIdeal.main_arg11)
          ∧ r.2.mem ((c.tc : Thread Cert.MixOutRefIdeal.nD Cert.MixOutRefIdeal.τ).loc Cert.MixOutRefIdeal.main_arg12) = m' ((c.tc : Thread Cert.MixOutRefIdeal.nD Cert.MixOutRefIdeal.τ).loc Cert.MixOutRefIdeal.main_arg12)
          ∧ r.2.mem ((c.tc : Thread Cert.MixOutRefIdeal.nD Cert.MixOutRefIdeal.τ).loc Cert.MixOutRefIdeal.main_arg13) = m' ((c.tc : Thread Cert.MixOutRefIdeal.nD Cert.MixOutRefIdeal.τ).loc Cert.MixOutRefIdeal.main_arg13))

def preserves_TopK_TopKIdeal : Prop :=
  True

def algebraic_TopKIdeal_TopKRefIdeal_pre_finite_scores [hTopKIdeal : Cert.TopKIdeal.Facts] [hTopKRefIdeal : Cert.TopKRefIdeal.Facts] [hPre_finite_scores : Cert.Pre_finite_scores.Facts] : Prop :=
  ∀ (m : (ℓ : Loc Cert.TopKIdeal.nD Cert.TopKIdeal.τ Cert.TopKIdeal.sig) → Buf (Elt Ideal) ℓ) (g : Dev Cert.TopKIdeal.nD → PrngReg)
    (m' : (ℓ : Loc Cert.TopKRefIdeal.nD Cert.TopKRefIdeal.τ Cert.TopKRefIdeal.sig) → Buf (Elt Ideal) ℓ) (g' : Dev Cert.TopKRefIdeal.nD → PrngReg), Pre_TopKIdeal_finite_scores m →
    (∀ c : Dev Cert.TopKIdeal.nD,
      m' ((c.tc : Thread Cert.TopKRefIdeal.nD Cert.TopKRefIdeal.τ).loc Cert.TopKRefIdeal.main_arg0) = m ((c.tc : Thread Cert.TopKIdeal.nD Cert.TopKIdeal.τ).loc Cert.TopKIdeal.main_arg0)
      ∧ m' ((c.tc : Thread Cert.TopKRefIdeal.nD Cert.TopKRefIdeal.τ).loc Cert.TopKRefIdeal.main_arg1) = m ((c.tc : Thread Cert.TopKIdeal.nD Cert.TopKIdeal.τ).loc Cert.TopKIdeal.main_arg1)
      ∧ m' ((c.tc : Thread Cert.TopKRefIdeal.nD Cert.TopKRefIdeal.τ).loc Cert.TopKRefIdeal.main_arg2) = m ((c.tc : Thread Cert.TopKIdeal.nD Cert.TopKIdeal.τ).loc Cert.TopKIdeal.main_arg2)) →
    ∃ (v0 : (c : Dev Cert.TopKIdeal.nD) → Buf (Elt Ideal) ((c.tc : Thread Cert.TopKIdeal.nD Cert.TopKIdeal.τ).loc Cert.TopKIdeal.main_v4_0)) (v1 : (c : Dev Cert.TopKIdeal.nD) → Buf (Elt Ideal) ((c.tc : Thread Cert.TopKIdeal.nD Cert.TopKIdeal.τ).loc Cert.TopKIdeal.main_v4_1)),
      θ_run (Cert.TopKIdeal.defs (F := Ideal)) (onTc (τ := Cert.TopKIdeal.τ) (Cert.TopKIdeal.main (F := Ideal))) ⟨m, fun _ => 0, g⟩ (fun r => ∀ c : Dev Cert.TopKIdeal.nD,
          r.2.mem ((c.tc : Thread Cert.TopKIdeal.nD Cert.TopKIdeal.τ).loc Cert.TopKIdeal.main_v4_0) = v0 c
          ∧ r.2.mem ((c.tc : Thread Cert.TopKIdeal.nD Cert.TopKIdeal.τ).loc Cert.TopKIdeal.main_v4_1) = v1 c
          ∧ r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
          ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1)
          ∧ r.2.mem ((c.tc : Thread Cert.TopKIdeal.nD Cert.TopKIdeal.τ).loc Cert.TopKIdeal.main_arg2) = m ((c.tc : Thread Cert.TopKIdeal.nD Cert.TopKIdeal.τ).loc Cert.TopKIdeal.main_arg2))
      ∧ θ_run (Cert.TopKRefIdeal.defs (F := Ideal)) (onTc (τ := Cert.TopKRefIdeal.τ) (Cert.TopKRefIdeal.main (F := Ideal))) ⟨m', fun _ => 0, g'⟩ (fun r => ∀ c : Dev Cert.TopKRefIdeal.nD,
          r.2.mem ((c.tc : Thread Cert.TopKRefIdeal.nD Cert.TopKRefIdeal.τ).loc Cert.TopKRefIdeal.main_v36) = v0 c
          ∧ r.2.mem ((c.tc : Thread Cert.TopKRefIdeal.nD Cert.TopKRefIdeal.τ).loc Cert.TopKRefIdeal.main_v37) = v1 c
          ∧ r.2.mem ((c.tc : Thread Cert.TopKRefIdeal.nD Cert.TopKRefIdeal.τ).loc Cert.TopKRefIdeal.main_arg0) = m' ((c.tc : Thread Cert.TopKRefIdeal.nD Cert.TopKRefIdeal.τ).loc Cert.TopKRefIdeal.main_arg0)
          ∧ r.2.mem ((c.tc : Thread Cert.TopKRefIdeal.nD Cert.TopKRefIdeal.τ).loc Cert.TopKRefIdeal.main_arg1) = m' ((c.tc : Thread Cert.TopKRefIdeal.nD Cert.TopKRefIdeal.τ).loc Cert.TopKRefIdeal.main_arg1)
          ∧ r.2.mem ((c.tc : Thread Cert.TopKRefIdeal.nD Cert.TopKRefIdeal.τ).loc Cert.TopKRefIdeal.main_arg2) = m' ((c.tc : Thread Cert.TopKRefIdeal.nD Cert.TopKRefIdeal.τ).loc Cert.TopKRefIdeal.main_arg2))

def Claim : Prop :=
  ∃ (hInProj : Cert.InProj.Facts) (hInProjIdeal : Cert.InProjIdeal.Facts) (hInProjRefIdeal : Cert.InProjRefIdeal.Facts) (hMixOut : Cert.MixOut.Facts) (hMixOutIdeal : Cert.MixOutIdeal.Facts) (hMixOutRefIdeal : Cert.MixOutRefIdeal.Facts) (hTopK : Cert.TopK.Facts) (hTopKIdeal : Cert.TopKIdeal.Facts) (hTopKRefIdeal : Cert.TopKRefIdeal.Facts) (hPre_finite_streams : Cert.Pre_finite_streams.Facts) (hPre_finite_scores : Cert.Pre_finite_scores.Facts),
    quiescent_InProj (hInProj := hInProj)
    ∧ quiescent_InProjIdeal (hInProjIdeal := hInProjIdeal)
    ∧ quiescent_InProjRefIdeal (hInProjRefIdeal := hInProjRefIdeal)
    ∧ quiescent_MixOut (hMixOut := hMixOut)
    ∧ quiescent_MixOutIdeal (hMixOutIdeal := hMixOutIdeal)
    ∧ quiescent_MixOutIdeal_pre_finite_streams (hMixOutIdeal := hMixOutIdeal) (hPre_finite_streams := hPre_finite_streams)
    ∧ quiescent_MixOutRefIdeal (hMixOutRefIdeal := hMixOutRefIdeal)
    ∧ quiescent_MixOutRefIdeal_pre_finite_streams (hMixOutRefIdeal := hMixOutRefIdeal) (hPre_finite_streams := hPre_finite_streams)
    ∧ quiescent_TopK (hTopK := hTopK)
    ∧ quiescent_TopKIdeal (hTopKIdeal := hTopKIdeal)
    ∧ quiescent_TopKIdeal_pre_finite_scores (hTopKIdeal := hTopKIdeal) (hPre_finite_scores := hPre_finite_scores)
    ∧ quiescent_TopKRefIdeal (hTopKRefIdeal := hTopKRefIdeal)
    ∧ quiescent_TopKRefIdeal_pre_finite_scores (hTopKRefIdeal := hTopKRefIdeal) (hPre_finite_scores := hPre_finite_scores)
    ∧ preserves_InProj_InProjIdeal
    ∧ algebraic_InProjIdeal_InProjRefIdeal (hInProjIdeal := hInProjIdeal) (hInProjRefIdeal := hInProjRefIdeal)
    ∧ preserves_MixOut_MixOutIdeal
    ∧ algebraic_MixOutIdeal_MixOutRefIdeal_pre_finite_streams (hMixOutIdeal := hMixOutIdeal) (hMixOutRefIdeal := hMixOutRefIdeal) (hPre_finite_streams := hPre_finite_streams)
    ∧ preserves_TopK_TopKIdeal
    ∧ algebraic_TopKIdeal_TopKRefIdeal_pre_finite_scores (hTopKIdeal := hTopKIdeal) (hTopKRefIdeal := hTopKRefIdeal) (hPre_finite_scores := hPre_finite_scores)
-- ==== Pre_finite_scores.lean ====
abbrev S65536x1024 : Shape := ⟨2, ![65536, 1024]⟩
abbrev S1024x2048 : Shape := ⟨2, ![1024, 2048]⟩
abbrev S8x2x128x128 : Shape := ⟨4, ![8, 2, 128, 128]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S8x2x128x128 : S_.BroadcastsInDim S8x2x128x128 (![] : Fin 0 → Fin S8x2x128x128.rank)
  reducesTo_S8x2x128x128_S_d0_1_2_3 : S8x2x128x128.ReducesTo [0, 1, 2, 3] S_

variable [Facts]

def fn {F : FTy → Type} [FloatOps F] (main_arg0 : FVec F S65536x1024 .f32) (main_arg1 : FVec F S1024x2048 .f32) (main_arg2 : FVec F S8x2x128x128 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S8x2x128x128 .f32 := Host.absf main_arg2
  let main_cst_2 : FVec F S_ .f32 := constant S_ .f32 0x7F800000#32
  let main_v10 : FVec F S8x2x128x128 .f32 := broadcastInDim S8x2x128x128 ![] bcast_S_S8x2x128x128 main_cst_2
  let main_v11 : IVec S8x2x128x128 1 := cmpf .olt main_v9 main_v10
  let main_c_3 : IVec S_ 1 := constantI S_ 1 1#1
  let main_v12 : IVec S_ 1 := (fun x v => Host.reduce IntOp.andi x v reducesTo_S8x2x128x128_S_d0_1_2_3 h_S_) main_v11 main_c_3
  let main_v13 : IVec S_ 1 := andi main_v8 main_v12
  main_v13
-- ==== Pre_finite_streams.lean ====
abbrev S32x2048x512 : Shape := ⟨3, ![32, 2048, 512]⟩
abbrev S2x32x2048x512 : Shape := ⟨4, ![2, 32, 2048, 512]⟩
abbrev S32x2048x1024 : Shape := ⟨3, ![32, 2048, 1024]⟩
abbrev S32x1x1024 : Shape := ⟨3, ![32, 1, 1024]⟩
abbrev S1024 : Shape := ⟨1, ![1024]⟩
abbrev S512x512 : Shape := ⟨2, ![512, 512]⟩
abbrev S512 : Shape := ⟨1, ![512]⟩
abbrev S1024x1024 : Shape := ⟨2, ![1024, 1024]⟩
abbrev S_ : Shape := ⟨0, ![]⟩

class Facts : Prop where
  bcast_S_S2x32x2048x512 : S_.BroadcastsInDim S2x32x2048x512 (![] : Fin 0 → Fin S2x32x2048x512.rank)
  reducesTo_S2x32x2048x512_S_d0_1_2_3 : S2x32x2048x512.ReducesTo [0, 1, 2, 3] S_
  h_S_ : 0 < S_.numel

variable [Facts]

def fn {F : FTy → Type} [FloatOps F] (main_arg0 : FVec F S32x2048x512 .f32) (main_arg1 : FVec F S2x32x2048x512 .f32) (main_arg2 : FVec F S32x2048x512 .f32) (main_arg3 : FVec F S32x2048x512 .f32) (main_arg4 : FVec F S32x2048x1024 .f32) (main_arg5 : FVec F S32x1x1024 .f32) (main_arg6 : FVec F S32x1x1024 .f32) (main_arg7 : FVec F S32x1x1024 .f32) (main_arg8 : FVec F S1024 .f32) (main_arg9 : FVec F S512x512 .f32) (main_arg10 : FVec F S512 .f32) (main_arg11 : FVec F S512 .f32) (main_arg12 : FVec F S512 .f32) (main_arg13 : FVec F S1024x1024 .f32) : IVec S_ 1 :=
  let main_v0 : FVec F S2x32x2048x512 .f32 := Host.absf main_arg1
  let main_cst : FVec F S_ .f32 := constant S_ .f32 0x7F800000#32
  let main_v1 : FVec F S2x32x2048x512 .f32 := broadcastInDim S2x32x2048x512 ![] bcast_S_S2x32x2048x512 main_cst
  let main_v2 : IVec S2x32x2048x512 1 := cmpf .olt main_v0 main_v1
  let main_c : IVec S_ 1 := constantI S_ 1 1#1
  let main_v3 : IVec S_ 1 := (fun x v => Host.reduce IntOp.andi x v reducesTo_S2x32x2048x512_S_d0_1_2_3 h_S_) main_v2 main_c
  main_v3
-- ==== InProj.lean ====
abbrev S32x2048x1024 : Shape := ⟨3, ![32, 2048, 1024]⟩
abbrev S32x1x1024 : Shape := ⟨3, ![32, 1, 1024]⟩
abbrev S1024 : Shape := ⟨1, ![1024]⟩
abbrev S1024x2208 : Shape := ⟨2, ![1024, 2208]⟩
abbrev S1x1024 : Shape := ⟨2, ![1, 1024]⟩
abbrev S1024x512 : Shape := ⟨2, ![1024, 512]⟩
abbrev S1024x1536 : Shape := ⟨2, ![1024, 1536]⟩
abbrev S1024x160 : Shape := ⟨2, ![1024, 160]⟩
abbrev S_ : Shape := ⟨0, ![]⟩
abbrev S1024x256 : Shape := ⟨2, ![1024, 256]⟩
abbrev S32x2048x512 : Shape := ⟨3, ![32, 2048, 512]⟩
abbrev S32x2048x1536 : Shape := ⟨3, ![32, 2048, 1536]⟩
abbrev S32x2048x256 : Shape := ⟨3, ![32, 2048, 256]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x1536 : Shape := ⟨3, ![1, 512, 1536]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x1536 : Shape := ⟨2, ![512, 1536]⟩
abbrev S512x256 : Shape := ⟨2, ![512, 256]⟩

abbrev nBuf : Space → Nat
  | .hbm => 18
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024, .f32⟩
  | .hbm, ⟨4, _⟩ => ⟨S1024x2208, .f32⟩
  | .hbm, ⟨5, _⟩ => ⟨S1x1024, .f32⟩
  | .hbm, ⟨6, _⟩ => ⟨S1024x512, .f32⟩
  | .hbm, ⟨7, _⟩ => ⟨S1024x512, .bf16⟩
  | .hbm, ⟨8, _⟩ => ⟨S1024x1536, .f32⟩
  | .hbm, ⟨9, _⟩ => ⟨S1024x1536, .bf16⟩
  | .hbm, ⟨10, _⟩ => ⟨S1024x160, .f32⟩
  | .hbm, ⟨11, _⟩ => ⟨S_, .i32⟩
  | .hbm, ⟨12, _⟩ => ⟨S_, .f32⟩
  | .hbm, ⟨13, _⟩ => ⟨S1024x256, .f32⟩
  | .hbm, ⟨14, _⟩ => ⟨S1024x256, .bf16⟩
  | .hbm, ⟨15, _⟩ => ⟨S32x2048x512, .f32⟩
  | .hbm, ⟨16, _⟩ => ⟨S32x2048x1536, .f32⟩
  | .hbm, ⟨17, _⟩ => ⟨S32x2048x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x1536, .bf16⟩
  | .local _ .vmem, ⟨9, _⟩ => ⟨S1024x256, .bf16⟩
  | .local _ .vmem, ⟨10, _⟩ => ⟨S1x512x512, .f32⟩
  | .local _ .vmem, ⟨11, _⟩ => ⟨S1x512x512, .f32⟩
  | .local _ .vmem, ⟨12, _⟩ => ⟨S1x512x1536, .f32⟩
  | .local _ .vmem, ⟨13, _⟩ => ⟨S1x512x1536, .f32⟩
  | .local _ .vmem, ⟨14, _⟩ => ⟨S1x512x256, .f32⟩
  | .local _ .vmem, ⟨15, _⟩ => ⟨S1x512x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InProjRefIdeal.lean ====
abbrev S32x2048x1024 : Shape := ⟨3, ![32, 2048, 1024]⟩
abbrev S32x1x1024 : Shape := ⟨3, ![32, 1, 1024]⟩
abbrev S1024 : Shape := ⟨1, ![1024]⟩
abbrev S1024x2208 : Shape := ⟨2, ![1024, 2208]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2208 : Shape := ⟨3, ![32, 2048, 2208]⟩
abbrev S32x2048x512 : Shape := ⟨3, ![32, 2048, 512]⟩
abbrev S32x2048x1536 : Shape := ⟨3, ![32, 2048, 1536]⟩
abbrev S32x2048x160 : Shape := ⟨3, ![32, 2048, 160]⟩
abbrev S32x2048x256 : Shape := ⟨3, ![32, 2048, 256]⟩

abbrev nBuf : Space → Nat
  | .hbm => 35
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024, .f32⟩
  | .hbm, ⟨4, _⟩ => ⟨S1024x2208, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x1x1024, .f32⟩
  | .hbm, ⟨23, _⟩ => ⟨S32x1x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x2208, .f32⟩
  | .hbm, ⟨29, _⟩ => ⟨S32x2048x512, .f32⟩
  | .hbm, ⟨30, _⟩ => ⟨S32x2048x1536, .f32⟩
  | .hbm, ⟨31, _⟩ => ⟨S32x2048x160, .f32⟩
  | .hbm, ⟨32, _⟩ => ⟨S_, .i32⟩
  | .hbm, ⟨33, _⟩ => ⟨S_, .f32⟩
  | .hbm, ⟨34, _⟩ => ⟨S32x2048x256, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== MixOut.lean ====
abbrev S32x2048x512 : Shape := ⟨3, ![32, 2048, 512]⟩
abbrev S2x32x2048x512 : Shape := ⟨4, ![2, 32, 2048, 512]⟩
abbrev S32x2048x1024 : Shape := ⟨3, ![32, 2048, 1024]⟩
abbrev S32x1x1024 : Shape := ⟨3, ![32, 1, 1024]⟩
abbrev S1024 : Shape := ⟨1, ![1024]⟩
abbrev S512x512 : Shape := ⟨2, ![512, 512]⟩
abbrev S512 : Shape := ⟨1, ![512]⟩
abbrev S1024x1024 : Shape := ⟨2, ![1024, 1024]⟩
abbrev S1x1024 : Shape := ⟨2, ![1, 1024]⟩
abbrev S1x512 : Shape := ⟨2, ![1, 512]⟩
abbrev S512x1024 : Shape := ⟨2, ![512, 1024]⟩
abbrev S1x512x512 : Shape := ⟨3, ![1, 512, 512]⟩
abbrev S2x1x512x512 : Shape := ⟨4, ![2, 1, 512, 512]⟩
abbrev S1x512x1024 : Shape := ⟨3, ![1, 512, 1024]⟩
abbrev S1x1x1024 : Shape := ⟨3, ![1, 1, 1024]⟩
abbrev S1x1x512x512 : Shape := ⟨4, ![1, 1, 512, 512]⟩
abbrev S512x1 : Shape := ⟨2, ![512, 1]⟩

abbrev nBuf : Space → Nat
  | .hbm => 25
  | .vmem => 27
  | .smem => 0
  | _ => 0

abbrev bufTy : (tb : Table) → Fin (tcTables nBuf tb) → BufTy
  | .hbm, ⟨0, _⟩ => ⟨S32x2048x512, .f32⟩
  | .hbm, ⟨1, _⟩ => ⟨S2x32x2048x512, .f32⟩
  | .hbm, ⟨2, _⟩ => ⟨S32x2048x512, .f32⟩
  | .hbm, ⟨3, _⟩ => ⟨S32x2048x512, .f32⟩
  | .hbm, ⟨4, _⟩ => ⟨S32x2048x1024, .f32⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S1024, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S1024x1024, .f32⟩
  | .hbm, ⟨14, _⟩ => ⟨S1x1024, .f32⟩
  | .hbm, ⟨15, _⟩ => ⟨S512x512, .bf16⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S512x1024, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S32x2048x1024, .f32⟩
  | .hbm, ⟨24, _⟩ => ⟨S32x2048x1024, .f32⟩
  | .local _ .vmem, ⟨0, _⟩ => ⟨S1x512x512, .f32⟩
  | .local _ .vmem, ⟨1, _⟩ => ⟨S1x512x512, .f32⟩
  | .local _ .vmem, ⟨2, _⟩ => ⟨S2x1x512x512, .f32⟩
  | .local _ .vmem, ⟨3, _⟩ => ⟨S2x1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S512x512, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S512x1024, .bf16⟩
  | .local _ .vmem, ⟨22, _⟩ => ⟨S512x1024, .bf16⟩
  | .local _ .vmem, ⟨23, _⟩ => ⟨S1x512x1024, .f32⟩
  | .local _ .vmem, ⟨24, _⟩ => ⟨S1x512x1024, .f32⟩
  | .local _ .vmem, ⟨25, _⟩ => ⟨S1x512x1024, .f32⟩
  | .local _ .vmem, ⟨26, _⟩ => ⟨S1x512x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MixOutIdeal.lean ====
variable {F : FTy → Type} [FloatOps F] [Named F]
def κ : String → Option EReal := fun
  | "inv_sqrt_2" => some (((Real.sqrt 2)⁻¹ : ℝ) : EReal)
  | _ => none
-- ==== MixOutRefIdeal.lean ====
abbrev S32x2048x512 : Shape := ⟨3, ![32, 2048, 512]⟩
abbrev S2x32x2048x512 : Shape := ⟨4, ![2, 32, 2048, 512]⟩
abbrev S32x2048x1024 : Shape := ⟨3, ![32, 2048, 1024]⟩
abbrev S32x1x1024 : Shape := ⟨3, ![32, 1, 1024]⟩
abbrev S1024 : Shape := ⟨1, ![1024]⟩
abbrev S512x512 : Shape := ⟨2, ![512, 512]⟩
abbrev S512 : Shape := ⟨1, ![512]⟩
abbrev S1024x1024 : Shape := ⟨2, ![1024, 1024]⟩
abbrev S_ : Shape := ⟨0, ![]⟩
abbrev S1x1x512 : Shape := ⟨3, ![1, 1, 512]⟩
abbrev S1x32x2048x512 : Shape := ⟨4, ![1, 32, 2048, 512]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S8x64 : Shape := ⟨2, ![8, 64]⟩
abbrev S1x1x8x64 : Shape := ⟨4, ![1, 1, 8, 64]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S2x32x2048x512, .f32⟩
  | .hbm, ⟨2, _⟩ => ⟨S32x2048x512, .f32⟩
  | .hbm, ⟨3, _⟩ => ⟨S32x2048x512, .f32⟩
  | .hbm, ⟨4, _⟩ => ⟨S32x2048x1024, .f32⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S1024, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S1024x1024, .f32⟩
  | .hbm, ⟨14, _⟩ => ⟨S_, .f32⟩
  | .hbm, ⟨15, _⟩ => ⟨S32x2048x512, .f32⟩
  | .hbm, ⟨16, _⟩ => ⟨S32x2048x512, .f32⟩
  | .hbm, ⟨17, _⟩ => ⟨S_, .f32⟩
  | .hbm, ⟨18, _⟩ => ⟨S_, .f32⟩
  | .hbm, ⟨19, _⟩ => ⟨S32x2048x512, .f32⟩
  | .hbm, ⟨20, _⟩ => ⟨S32x2048x512, .f32⟩
  | .hbm, ⟨21, _⟩ => ⟨S32x2048x512, .f32⟩
  | .hbm, ⟨22, _⟩ => ⟨S_, .f32⟩
  | .hbm, ⟨23, _⟩ => ⟨S32x2048x512, .f32⟩
  | .hbm, ⟨24, _⟩ => ⟨S32x2048x512, .f32⟩
  | .hbm, ⟨25, _⟩ => ⟨S32x2048x512, .f32⟩
  | .hbm, ⟨26, _⟩ => ⟨S32x2048x512, .f32⟩
  | .hbm, ⟨27, _⟩ => ⟨S1x1x512, .f32⟩
  | .hbm, ⟨28, _⟩ => ⟨S32x2048x512, .f32⟩
  | .hbm, ⟨29, _⟩ => ⟨S32x2048x512, .f32⟩
  | .hbm, ⟨30, _⟩ => ⟨S32x2048x512, .f32⟩
  | .hbm, ⟨31, _⟩ => ⟨S32x2048x512, .f32⟩
  | .hbm, ⟨32, _⟩ => ⟨S_, .f32⟩
  | .hbm, ⟨33, _⟩ => ⟨S32x2048x512, .f32⟩
  | .hbm, ⟨34, _⟩ => ⟨S32x2048x512, .f32⟩
  | .hbm, ⟨35, _⟩ => ⟨S_, .f32⟩
  | .hbm, ⟨36, _⟩ => ⟨S32x2048x512, .f32⟩
  | .hbm, ⟨37, _⟩ => ⟨S32x2048x512, .f32⟩
  | .hbm, ⟨38, _⟩ => ⟨S32x2048x512, .f32⟩
  | .hbm, ⟨39, _⟩ => ⟨S1x32x2048x512, .f32⟩
  | .hbm, ⟨40, _⟩ => ⟨S32x2048x512, .f32⟩
  | .hbm, ⟨41, _⟩ => ⟨S1x32x2048x512, .f32⟩
  | .hbm, ⟨42, _⟩ => ⟨S32x2048x512, .f32⟩
  | .hbm, ⟨43, _⟩ => ⟨S32x2048x512, .f32⟩
  | .hbm, ⟨44, _⟩ => ⟨S32x2048x8x64, .f32⟩
  | .hbm, ⟨45, _⟩ => ⟨S_, .f32⟩
  | .hbm, ⟨46, _⟩ => ⟨S32x2048x8, .f32⟩
  | .hbm, ⟨47, _⟩ => ⟨S32x2048x8x1, .f32⟩
  | .hbm, ⟨48, _⟩ => ⟨S_, .f32⟩
  | .hbm, ⟨49, _⟩ => ⟨S32x2048x8x1, .f32⟩
  | .hbm, ⟨50, _⟩ => ⟨S32x2048x8x1, .f32⟩
  | .hbm, ⟨51, _⟩ => ⟨S32x2048x8x64, .f32⟩
  | .hbm, ⟨52, _⟩ => ⟨S32x2048x8x64, .f32⟩
  | .hbm, ⟨53, _⟩ => ⟨S32x2048x8x64, .f32⟩
  | .hbm, ⟨54, _⟩ => ⟨S_, .f32⟩
  | .hbm, ⟨55, _⟩ => ⟨S32x2048x8, .f32⟩
  | .hbm, ⟨56, _⟩ => ⟨S32x2048x8x1, .f32⟩
  | .hbm, ⟨57, _⟩ => ⟨S_, .f32⟩
  | .hbm, ⟨58, _⟩ => ⟨S32x2048x8x1, .f32⟩
  | .hbm, ⟨59, _⟩ => ⟨S32x2048x8x1, .f32⟩
  | .hbm, ⟨60, _⟩ => ⟨S32x2048x8x64, .f32⟩
  | .hbm, ⟨61, _⟩ => ⟨S32x2048x8x64, .f32⟩
  | .hbm, ⟨62, _⟩ => ⟨S_, .f32⟩
  | .hbm, ⟨63, _⟩ => ⟨S32x2048x8x1, .f32⟩
  | .hbm, ⟨64, _⟩ => ⟨S32x2048x8x1, .f32⟩
  | .hbm, ⟨65, _⟩ => ⟨S32x2048x8x1, .f32⟩
  | .hbm, ⟨66, _⟩ => ⟨S32x2048x8x64, .f32⟩
  | .hbm, ⟨67, _⟩ => ⟨S32x2048x8x64, .f32⟩
  | .hbm, ⟨68, _⟩ => ⟨S8x64, .f32⟩
  | .hbm, ⟨69, _⟩ => ⟨S1x1x8x64, .f32⟩
  | .hbm, ⟨70, _⟩ => ⟨S32x2048x8x64, .f32⟩
  | .hbm, ⟨71, _⟩ => ⟨S32x2048x8x64, .f32⟩
  | .hbm, ⟨72, _⟩ => ⟨S8x64, .f32⟩
  | .hbm, ⟨73, _⟩ => ⟨S1x1x8x64, .f32⟩
  | .hbm, ⟨74, _⟩ => ⟨S32x2048x8x64, .f32⟩
  | .hbm, ⟨75, _⟩ => ⟨S32x2048x8x64, .f32⟩
  | .hbm, ⟨76, _⟩ => ⟨S32x2048x8x64, .f32⟩
  | .hbm, ⟨77, _⟩ => ⟨S32x2048x8x64, .f32⟩
  | .hbm, ⟨78, _⟩ => ⟨S32x2048x512, .f32⟩
  | .hbm, ⟨79, _⟩ => ⟨S32x2048x512, .f32⟩
  | .hbm, ⟨80, _⟩ => ⟨S32x2048x1024, .f32⟩
  | .hbm, ⟨81, _⟩ => ⟨S32x2048x1024, .f32⟩
  | .hbm, ⟨82, _⟩ => ⟨S32x2048x1024, .f32⟩
  | .hbm, ⟨83, _⟩ => ⟨S32x2048x1024, .f32⟩
  | .hbm, ⟨84, _⟩ => ⟨S32x2048x1024, .f32⟩
  | .hbm, ⟨85, _⟩ => ⟨S32x2048x1024, .f32⟩
  | .hbm, ⟨86, _⟩ => ⟨S_, .f32⟩
  | .hbm, ⟨87, _⟩ => ⟨S32x2048, .f32⟩
  | .hbm, ⟨88, _⟩ => ⟨S32x2048x1, .f32⟩
  | .hbm, ⟨89, _⟩ => ⟨S_, .f32⟩
  | .hbm, ⟨90, _⟩ => ⟨S32x2048x1, .f32⟩
  | .hbm, ⟨91, _⟩ => ⟨S32x2048x1, .f32⟩
  | .hbm, ⟨92, _⟩ => ⟨S_, .f32⟩
  | .hbm, ⟨93, _⟩ => ⟨S32x2048x1, .f32⟩
  | .hbm, ⟨94, _⟩ => ⟨S32x2048x1, .f32⟩
  | .hbm, ⟨95, _⟩ => ⟨S32x2048x1, .f32⟩
  | .hbm, ⟨96, _⟩ => ⟨S32x2048x1024, .f32⟩
  | .hbm, ⟨97, _⟩ => ⟨S32x2048x1024, .f32⟩
  | .hbm, ⟨98, _⟩ => ⟨S1x1x1024, .f32⟩
  | .hbm, ⟨99, _⟩ => ⟨S32x2048x1024, .f32⟩
  | .hbm, ⟨100, _⟩ => ⟨S32x2048x1024, .f32⟩
  | .hbm, ⟨101, _⟩ => ⟨S_, .f32⟩
  | .hbm, ⟨102, _⟩ => ⟨S32x1x1024, .f32⟩
  | .hbm, ⟨103, _⟩ => ⟨S32x1x1024, .f32⟩
  | .hbm, ⟨104, _⟩ => ⟨S32x2048x1024, .f32⟩
  | .hbm, ⟨105, _⟩ => ⟨S32x2048x1024, .f32⟩
  | .hbm, ⟨106, _⟩ => ⟨S32x2048x1024, .f32⟩
  | .hbm, ⟨107, _⟩ => ⟨S32x2048x1024, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_12 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== TopK.lean ====
abbrev S65536x1024 : Shape := ⟨2, ![65536, 1024]⟩
abbrev S1024x2048 : Shape := ⟨2, ![1024, 2048]⟩
abbrev S8x2x128x128 : Shape := ⟨4, ![8, 2, 128, 128]⟩
abbrev S56x16 : Shape := ⟨2, ![56, 16]⟩
abbrev S56x1 : Shape := ⟨2, ![56, 1]⟩
abbrev S2048x1024 : Shape := ⟨2, ![2048, 1024]⟩
abbrev S16x128x128 : Shape := ⟨3, ![16, 128, 128]⟩
abbrev S65536x128 : Shape := ⟨2, ![65536, 128]⟩
abbrev S512x1024 : Shape := ⟨2, ![512, 1024]⟩
abbrev S512x128 : Shape := ⟨2, ![512, 128]⟩
abbrev S2048x512 : Shape := ⟨2, ![2048, 512]⟩
abbrev S1x128x128 : Shape := ⟨3, ![1, 128, 128]⟩
abbrev S128x128 : Shape := ⟨2, ![128, 128]⟩
abbrev S128x512 : Shape := ⟨2, ![128, 512]⟩
abbrev S512 : Shape := ⟨1, ![512]⟩
abbrev S1x512 : Shape := ⟨2, ![1, 512]⟩
abbrev S16x512 : Shape := ⟨2, ![16, 512]⟩
abbrev S56x512 : Shape := ⟨2, ![56, 512]⟩

abbrev nBuf : Space → Nat
  | .hbm => 12
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024x2048, .f32⟩
  | .hbm, ⟨2, _⟩ => ⟨S8x2x128x128, .f32⟩
  | .hbm, ⟨3, _⟩ => ⟨S56x16, .f32⟩
  | .hbm, ⟨4, _⟩ => ⟨S56x16, .f32⟩
  | .hbm, ⟨5, _⟩ => ⟨S56x1, .f32⟩
  | .hbm, ⟨6, _⟩ => ⟨S2048x1024, .f32⟩
  | .hbm, ⟨7, _⟩ => ⟨S2048x1024, .bf16⟩
  | .hbm, ⟨8, _⟩ => ⟨S16x128x128, .f32⟩
  | .hbm, ⟨9, _⟩ => ⟨S16x128x128, .bf16⟩
  | .hbm, ⟨10, _⟩ => ⟨S65536x128, .i32⟩
  | .hbm, ⟨11, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S16x128x128, .bf16⟩
  | .local _ .vmem, ⟨4, _⟩ => ⟨S56x16, .f32⟩
  | .local _ .vmem, ⟨5, _⟩ => ⟨S56x16, .f32⟩
  | .local _ .vmem, ⟨6, _⟩ => ⟨S56x1, .f32⟩
  | .local _ .vmem, ⟨7, _⟩ => ⟨S512x128, .i32⟩
  | .local _ .vmem, ⟨8, _⟩ => ⟨S512x128, .i32⟩
  | .local _ .vmem, ⟨9, _⟩ => ⟨S512x128, .f32⟩
  | .local _ .vmem, ⟨10, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S56x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S56x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S56x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== TopKRefIdeal.lean ====
abbrev S65536x1024 : Shape := ⟨2, ![65536, 1024]⟩
abbrev S1024x2048 : Shape := ⟨2, ![1024, 2048]⟩
abbrev S8x2x128x128 : Shape := ⟨4, ![8, 2, 128, 128]⟩
abbrev S65536x2048 : Shape := ⟨2, ![65536, 2048]⟩
abbrev S65536x8x2x128 : Shape := ⟨4, ![65536, 8, 2, 128]⟩
abbrev S8x2x128x65536 : Shape := ⟨4, ![8, 2, 128, 65536]⟩
abbrev S65536x8x1x128 : Shape := ⟨4, ![65536, 8, 1, 128]⟩
abbrev S65536x8x128 : Shape := ⟨3, ![65536, 8, 128]⟩
abbrev S65536x8x16 : Shape := ⟨3, ![65536, 8, 16]⟩
abbrev S65536x8x16x1 : Shape := ⟨4, ![65536, 8, 16, 1]⟩
abbrev S65536x8x1x16 : Shape := ⟨4, ![65536, 8, 1, 16]⟩
abbrev S65536x8x16x16 : Shape := ⟨4, ![65536, 8, 16, 16]⟩
abbrev S65536x8x256 : Shape := ⟨3, ![65536, 8, 256]⟩
abbrev S_ : Shape := ⟨0, ![]⟩
abbrev S1 : Shape := ⟨1, ![1]⟩
abbrev S1x1x1x1 : Shape := ⟨4, ![1, 1, 1, 1]⟩
abbrev S65536x8 : Shape := ⟨2, ![65536, 8]⟩
abbrev S65536x8x1 : Shape := ⟨3, ![65536, 8, 1]⟩
abbrev S65536x128 : Shape := ⟨2, ![65536, 128]⟩

abbrev nBuf : Space → Nat
  | .hbm => 73
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2048, .f32⟩
  | .hbm, ⟨2, _⟩ => ⟨S8x2x128x128, .f32⟩
  | .hbm, ⟨3, _⟩ => ⟨S65536x2048, .f32⟩
  | .hbm, ⟨4, _⟩ => ⟨S65536x8x2x128, .f32⟩
  | .hbm, ⟨5, _⟩ => ⟨S8x2x128x65536, .f32⟩
  | .hbm, ⟨6, _⟩ => ⟨S65536x8x2x128, .f32⟩
  | .hbm, ⟨7, _⟩ => ⟨S65536x8x1x128, .f32⟩
  | .hbm, ⟨8, _⟩ => ⟨S65536x8x128, .f32⟩
  | .hbm, ⟨9, _⟩ => ⟨S65536x8x16, .f32⟩
  | .hbm, ⟨10, _⟩ => ⟨S65536x8x16, .i32⟩
  | .hbm, ⟨11, _⟩ => ⟨S65536x8x1x128, .f32⟩
  | .hbm, ⟨12, _⟩ => ⟨S65536x8x128, .f32⟩
  | .hbm, ⟨13, _⟩ => ⟨S65536x8x16, .f32⟩
  | .hbm, ⟨14, _⟩ => ⟨S65536x8x16, .i32⟩
  | .hbm, ⟨15, _⟩ => ⟨S65536x8x16x1, .f32⟩
  | .hbm, ⟨16, _⟩ => ⟨S65536x8x1x16, .f32⟩
  | .hbm, ⟨17, _⟩ => ⟨S65536x8x16x16, .f32⟩
  | .hbm, ⟨18, _⟩ => ⟨S65536x8x16x16, .f32⟩
  | .hbm, ⟨19, _⟩ => ⟨S65536x8x16x16, .f32⟩
  | .hbm, ⟨20, _⟩ => ⟨S65536x8x256, .f32⟩
  | .hbm, ⟨21, _⟩ => ⟨S65536x8x16x1, .i32⟩
  | .hbm, ⟨22, _⟩ => ⟨S_, .i32⟩
  | .hbm, ⟨23, _⟩ => ⟨S65536x8x16x1, .i32⟩
  | .hbm, ⟨24, _⟩ => ⟨S65536x8x16x1, .i32⟩
  | .hbm, ⟨25, _⟩ => ⟨S65536x8x1x16, .i32⟩
  | .hbm, ⟨26, _⟩ => ⟨S65536x8x16x16, .i32⟩
  | .hbm, ⟨27, _⟩ => ⟨S65536x8x16x16, .i32⟩
  | .hbm, ⟨28, _⟩ => ⟨S65536x8x16x16, .i32⟩
  | .hbm, ⟨29, _⟩ => ⟨S65536x8x256, .i32⟩
  | .hbm, ⟨30, _⟩ => ⟨S65536x8x16, .f32⟩
  | .hbm, ⟨31, _⟩ => ⟨S65536x8x16, .i32⟩
  | .hbm, ⟨32, _⟩ => ⟨S_, .i32⟩
  | .hbm, ⟨33, _⟩ => ⟨S65536x8x16, .i32⟩
  | .hbm, ⟨34, _⟩ => ⟨S65536x8x16, .i1⟩
  | .hbm, ⟨35, _⟩ => ⟨S_, .i32⟩
  | .hbm, ⟨36, _⟩ => ⟨S65536x8x16, .i32⟩
  | .hbm, ⟨37, _⟩ => ⟨S65536x8x16, .i32⟩
  | .hbm, ⟨38, _⟩ => ⟨S65536x8x16, .i32⟩
  | .hbm, ⟨39, _⟩ => ⟨S65536x8x16x1, .i32⟩
  | .hbm, ⟨40, _⟩ => ⟨S1, .i32⟩
  | .hbm, ⟨41, _⟩ => ⟨S_, .i32⟩
  | .hbm, ⟨42, _⟩ => ⟨S65536x8x16x1, .i32⟩
  | .hbm, ⟨43, _⟩ => ⟨S65536x8x16x1, .i1⟩
  | .hbm, ⟨44, _⟩ => ⟨S1x1x1x1, .i32⟩
  | .hbm, ⟨45, _⟩ => ⟨S65536x8x16x1, .i32⟩
  | .hbm, ⟨46, _⟩ => ⟨S65536x8x16x1, .i1⟩
  | .hbm, ⟨47, _⟩ => ⟨S65536x8x16x1, .i1⟩
  | .hbm, ⟨48, _⟩ => ⟨S_, .i1⟩
  | .hbm, ⟨49, _⟩ => ⟨S65536x8x16, .i1⟩
  | .hbm, ⟨50, _⟩ => ⟨S65536x8x16, .i32⟩
  | .hbm, ⟨51, _⟩ => ⟨S_, .i32⟩
  | .hbm, ⟨52, _⟩ => ⟨S65536x8x16, .i32⟩
  | .hbm, ⟨53, _⟩ => ⟨S65536x8x16, .i32⟩
  | .hbm, ⟨54, _⟩ => ⟨S_, .f32⟩
  | .hbm, ⟨55, _⟩ => ⟨S65536x8, .f32⟩
  | .hbm, ⟨56, _⟩ => ⟨S_, .f32⟩
  | .hbm, ⟨57, _⟩ => ⟨S65536x8, .f32⟩
  | .hbm, ⟨58, _⟩ => ⟨S65536x8, .f32⟩
  | .hbm, ⟨59, _⟩ => ⟨S65536x8x1, .f32⟩
  | .hbm, ⟨60, _⟩ => ⟨S65536x8x16, .f32⟩
  | .hbm, ⟨61, _⟩ => ⟨S65536x8x16, .f32⟩
  | .hbm, ⟨62, _⟩ => ⟨S65536x8x16, .f32⟩
  | .hbm, ⟨63, _⟩ => ⟨S_, .f32⟩
  | .hbm, ⟨64, _⟩ => ⟨S65536x8, .f32⟩
  | .hbm, ⟨65, _⟩ => ⟨S65536x8x1, .f32⟩
  | .hbm, ⟨66, _⟩ => ⟨S65536x8x16, .f32⟩
  | .hbm, ⟨67, _⟩ => ⟨S65536x8x16, .f32⟩
  | .hbm, ⟨68, _⟩ => ⟨S_, .i32⟩
  | .hbm, ⟨69, _⟩ => ⟨S65536x8x16, .i32⟩
  | .hbm, ⟨70, _⟩ => ⟨S65536x8x16, .i32⟩
  | .hbm, ⟨71, _⟩ => ⟨S65536x128, .i32⟩
  | .hbm, ⟨72, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_values : Ref sig .tc := ⟨.hbm, 9, rfl⟩
abbrev main_indices : Ref sig .tc := ⟨.hbm, 10, rfl⟩
abbrev main_v6 : Ref sig .tc := ⟨.hbm, 11, rfl⟩
abbrev main_v7 : Ref sig .tc := ⟨.hbm, 12, rfl⟩
abbrev main_values_0 : Ref sig .tc := ⟨.hbm, 13, rfl⟩
abbrev main_indices_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_values_2 : Ref sig .tc := ⟨.hbm, 30, rfl⟩
abbrev main_indices_3 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_c_4 : Ref sig .tc := ⟨.hbm, 51, rfl⟩
abbrev main_call0_v14 : Ref sig .tc := ⟨.hbm, 52, rfl⟩
abbrev main_v22 : Ref sig .tc := ⟨.hbm, 53, rfl⟩
abbrev main_cst : Ref sig .tc := ⟨.hbm, 54, rfl⟩
abbrev main_v23 : Ref sig .tc := ⟨.hbm, 55, rfl⟩
abbrev main_cst_4 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_6 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩

abbrev nD : Nat := 1
abbrev τ : Topo := Topo.v7x

variable {F : FTy → Type} [FloatOps F]
-- ==== Proof.InProjSpec.lean ====
/- The input projection as the reference writes it, stage by stage: the modulated RMS-normalised rows, the product with
   the projection matrix, and the three column ranges of it that are its results. -/
module

public import proofs.«01_k».proof.Proof.Gen.InProjRefIdeal.Run
public import Idealize.ShloMosaic.PureOps.Ideal.Laws

@[expose] public section

noncomputable section

namespace Cert.Proof.InProj

open Cert.InProjRefIdeal Cert.InProjRefIdeal.Gen
open Idealize.ShloMosaic Idealize.ShloMosaic.TcCoe Idealize.SL.Sem Idealize.ShloMosaic.StableHlo

/-- Each row of `x` over its root mean square, scaled by the gain. -/
abbrev scaled (x : FVec Ideal S32x2048x1024 .f32) (g : FVec Ideal S1024 .f32) : FVec Ideal S32x2048x1024 .f32 :=
  mulf (mulf x (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf x x) (constant S_ .f32 0x00000000#32) reducesTo_S32x2048x1024_S32x2048_d2 h_S_))
          (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2
      (broadcastInDim S1x1x1024 ![2] bcast_S1024_S1x1x1024_2 g))

/-- The normalised rows times one plus the batch row's scale, plus its shift. -/
abbrev modulated (x : FVec Ideal S32x2048x1024 .f32) (shift scale : FVec Ideal S32x1x1024 .f32) (g : FVec Ideal S1024 .f32) :
    FVec Ideal S32x2048x1024 .f32 :=
  addf (mulf (scaled x g) (broadcastInDim S32x2048x1024 ![0, 1, 2] bcast_S32x1x1024_S32x2048x1024_0_1_2
      (addf (broadcastInDim S32x1x1024 ![] bcast_S_S32x1x1024 (constant S_ .f32 0x3F800000#32)) scale)))
    (broadcastInDim S32x2048x1024 ![0, 1, 2] bcast_S32x1x1024_S32x2048x1024_0_1_2 shift)

/-- The projection of the modulated rows. -/
abbrev projected (x : FVec Ideal S32x2048x1024 .f32) (shift scale : FVec Ideal S32x1x1024 .f32) (g : FVec Ideal S1024 .f32)
    (w : FVec Ideal S1024x2208 .f32) : FVec Ideal S32x2048x2208 .f32 :=
  Host.dotGeneral dot_S32x2048x1024_S1024x2208_S32x2048x2208_2_0_01_1_n_n none (modulated x shift scale g) w

/-- The columns that go to the state-space mixer. -/
abbrev mixerCols (x : FVec Ideal S32x2048x1024 .f32) (shift scale : FVec Ideal S32x1x1024 .f32) (g : FVec Ideal S1024 .f32)
    (w : FVec Ideal S1024x2208 .f32) : FVec Ideal S32x2048x512 .f32 :=
  extractStridedSlice S32x2048x512 ![0, 0, 0] (projected x shift scale g w) slices_S32x2048x2208_S32x2048x512_0_0_0

/-- The columns that hold the time mixer's three streams. -/
abbrev streamCols (x : FVec Ideal S32x2048x1024 .f32) (shift scale : FVec Ideal S32x1x1024 .f32) (g : FVec Ideal S1024 .f32)
    (w : FVec Ideal S1024x2208 .f32) : FVec Ideal S32x2048x1536 .f32 :=
  extractStridedSlice S32x2048x1536 ![0, 0, 512] (projected x shift scale g w) slices_S32x2048x2208_S32x2048x1536_0_0_512

/-- The low-rank columns, with zero columns after them. -/
abbrev lowRankCols (x : FVec Ideal S32x2048x1024 .f32) (shift scale : FVec Ideal S32x1x1024 .f32) (g : FVec Ideal S1024 .f32)
    (w : FVec Ideal S1024x2208 .f32) : FVec Ideal S32x2048x256 .f32 :=
  pad S32x2048x256 ![0, 0, 0] ![0, 0, 96] ![0, 0, 0]
    (extractStridedSlice S32x2048x160 ![0, 0, 2048] (projected x shift scale g w) slices_S32x2048x2208_S32x2048x160_0_0_2048)
    (sitofp .f32 (constantI S_ 32 0#32)) pads_S32x2048x160_S32x2048x256_000_000_0960 h_S_

end Cert.Proof.InProj

end
-- ==== Proof.InProjEntry.lean ====
/- The operands that the host prepares for the input projection's kernel, as the region finds them. -/
module

public import proofs.«01_k».proof.Proof.Gen.InProjIdeal.Value
public import Idealize.ShloMosaic.Lib.Pipeline.ValueKit
public import Idealize.ShloMosaic.Lib.Pointwise

@[expose] public section

set_option maxRecDepth 16384

noncomputable section

namespace Cert.Proof.InProj

open Cert.InProjIdeal Cert.InProjIdeal.Gen
open Idealize.ShloMosaic Idealize.ShloMosaic.TcCoe Idealize.SL.Sem

variable (m : (ℓ : Loc nD τ sig) → Buf (Elt Ideal) ℓ)

/-- The gain is reshaped to a row. -/
theorem gain_entry (c : Dev nD) : V m c main_v0
    = shapeCast S1x1024 (m ((c : Thread nD τ).loc main_arg3)) shapeCasts_S1024_S1x1024 := by
  unfold V
  simp only [List.flatten_cons, List.flatten_nil, List.append_nil, List.cons_append, List.nil_append]
  after_results
  try rfl

/-- The first weight block: columns from 0. -/
theorem weight0_entry (c : Dev nD) : V m c main_v2
    = truncf (F := Ideal) .bf16 (extractStridedSlice S1024x512 ![0, 0] (m ((c : Thread nD τ).loc main_arg4)) slices_S1024x2208_S1024x512_0_0)
      bitsLt_bf16_f32 := by
  unfold V
  simp only [List.flatten_cons, List.flatten_nil, List.append_nil, List.cons_append, List.nil_append]
  after_results
  try rfl

/-- The second weight block: columns from 512. -/
theorem weight1_entry (c : Dev nD) : V m c main_v4
    = truncf (F := Ideal) .bf16 (extractStridedSlice S1024x1536 ![0, 512] (m ((c : Thread nD τ).loc main_arg4)) slices_S1024x2208_S1024x1536_0_512)
      bitsLt_bf16_f32 := by
  unfold V
  simp only [List.flatten_cons, List.flatten_nil, List.append_nil, List.cons_append, List.nil_append]
  after_results
  try rfl

/-- The third weight block: columns from 2048, zero columns after the last. -/
theorem weight2_entry (c : Dev nD) : V m c main_v7
    = truncf (F := Ideal) .bf16 (pad S1024x256 ![0, 0] ![0, 96] ![0, 0]
        (extractStridedSlice S1024x160 ![0, 2048] (m ((c : Thread nD τ).loc main_arg4)) slices_S1024x2208_S1024x160_0_2048)
        (sitofp (F := Ideal) .f32 (constantI S_ 32 0#32)) pads_S1024x160_S1024x256_000_0960 h_S_)
      bitsLt_bf16_f32 := by
  unfold V
  simp only [List.flatten_cons, List.flatten_nil, List.append_nil, List.cons_append, List.nil_append]
  after_results
  try rfl

/-- The windows of the prepared operands are those operands whole. -/
theorem prepared_places : ∀ t : Fin cfg0.N, win0_3.index t = ![0, 0] ∧ win0_4.index t = ![0, 0] ∧ win0_5.index t = ![0, 0]
    ∧ win0_6.index t = ![0, 0] :=
  (by decide +kernel : ∀ t : Fin grid0.N, _)

/-- The gain's block at a column. -/
theorem gain_at (c : Dev nD) (t : Fin cfg0.N) (k : Fin 1024) :
    iblk m c 3 t (ix2 0 k) = m ((c : Thread nD τ).loc main_arg3) (ix1 k) := by
  show V m c main_v0 (((cfg0.win 3).blk t).view.emb (ix2 0 k)) = _
  rw [gain_entry]
  pointwise
  blk_ext [prepared_places t]

/-- The first weight block at a row and a column. -/
theorem weight0_at (c : Dev nD) (t : Fin cfg0.N) (k : Fin 1024) (j : Fin 512) :
    iblk m c 4 t (ix2 k j) = m ((c : Thread nD τ).loc main_arg4) (ix2 k ⟨j.val, by omega⟩) := by
  show V m c main_v2 (((cfg0.win 4).blk t).view.emb (ix2 k j)) = _
  rw [weight0_entry]
  pointwise
  blk_ext [prepared_places t]

/-- The second weight block at a row and a column. -/
theorem weight1_at (c : Dev nD) (t : Fin cfg0.N) (k : Fin 1024) (j : Fin 1536) :
    iblk m c 5 t (ix2 k j) = m ((c : Thread nD τ).loc main_arg4) (ix2 k ⟨512 + j.val, by omega⟩) := by
  show V m c main_v4 (((cfg0.win 5).blk t).view.emb (ix2 k j)) = _
  rw [weight1_entry]
  pointwise
  blk_ext [prepared_places t]

/-- The third weight block at a row and a column that the matrix has. -/
theorem weight2_at (c : Dev nD) (t : Fin cfg0.N) (k : Fin 1024) (j : Fin 256) (h : j.val < 160) :
    iblk m c 6 t (ix2 k j) = m ((c : Thread nD τ).loc main_arg4) (ix2 k ⟨2048 + j.val, by omega⟩) := by
  show V m c main_v7 (((cfg0.win 6).blk t).view.emb (ix2 k j)) = _
  rw [weight2_entry]
  have e : ((cfg0.win 6).blk t).view.emb (ix2 k j) = ix2 k j := by blk_ext [prepared_places t]
  rw [e]
  pointwise
  rw [dif_pos h]

/-- The third weight block at a column past the matrix. -/
theorem weight2_past (c : Dev nD) (t : Fin cfg0.N) (k : Fin 1024) (j : Fin 256) (h : ¬ j.val < 160) :
    iblk m c 6 t (ix2 k j) = FloatOps.sitofp (F := Ideal) FTy.f32 0#32 := by
  show V m c main_v7 (((cfg0.win 6).blk t).view.emb (ix2 k j)) = _
  rw [weight2_entry]
  have e : ((cfg0.win 6).blk t).view.emb (ix2 k j) = ix2 k j := by blk_ext [prepared_places t]
  rw [e]
  pointwise
  rw [dif_neg h]

end Cert.Proof.InProj

end
-- ==== Proof.InProjValue.lean ====
/- What the input projection's kernel leaves in its three result arrays: the reference's column ranges. -/
module

public import proofs.«01_k».proof.Proof.InProjSpec
public import proofs.«01_k».proof.Proof.InProjEntry
public import Idealize.ShloMosaic.Lib.Pipeline.ValueKit
public import Idealize.ShloMosaic.Lib.Pointwise

@[expose] public section

set_option maxRecDepth 16384

noncomputable section

namespace Cert.Proof.InProj

open Cert.InProjIdeal Cert.InProjIdeal.Gen
open Idealize.ShloMosaic Idealize.ShloMosaic.TcCoe Idealize.SL.Sem

variable (m : (ℓ : Loc nD τ sig) → Buf (Elt Ideal) ℓ)

/-- Where each window's block lies at a grid point: the point is (batch row, quarter of the tokens). -/
theorem places : ∀ t : Fin cfg0.N, win0_0.index t = ![t.val / 4, t.val % 4, 0]
    ∧ win0_1.index t = ![t.val / 4, 0, 0] ∧ win0_2.index t = ![t.val / 4, 0, 0]
    ∧ win0_3.index t = ![0, 0] ∧ win0_4.index t = ![0, 0] ∧ win0_5.index t = ![0, 0] ∧ win0_6.index t = ![0, 0]
    ∧ win0_7.index t = ![t.val / 4, t.val % 4, 0] ∧ win0_8.index t = ![t.val / 4, t.val % 4, 0]
    ∧ win0_9.index t = ![t.val / 4, t.val % 4, 0] :=
  (by decide +kernel : ∀ t : Fin grid0.N, _)

set_option maxHeartbeats 1600000 in
/-- What a grid point stores for the state-space mixer's columns, at an index of its block, is the reference at the place of that index. -/
theorem point7 (c : Dev nD) (t : Fin cfg0.N) (y) :
    k0_pay4 (iblk m c 0 t) (iblk m c 3 t) (iblk m c 2 t) (iblk m c 1 t) (iblk m c 4 t) y
      = mixerCols (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 7).blk t).view.emb y) := by
  pointwise [k0_pay4, k0_pay3, mixerCols]
  simp only [gain_at, weight0_at m c t _ (y 2)]
  blk_point [iblk, V, places t]

set_option maxHeartbeats 1600000 in
/-- The array of the state-space mixer's columns after the run. -/
theorem final7 (c : Dev nD) : (dats m 0 c).arrAt 7 (cfgs 0).N
    = mixerCols (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  blk_simp; rw [after0_7]; frame_out
  exact point7 m c t y

set_option maxHeartbeats 1600000 in
/-- What a grid point stores for the time mixer's stream columns, at an index of its block, is the reference at the place of that index. -/
theorem point8 (c : Dev nD) (t : Fin cfg0.N) (y) :
    k0_pay1 (k0_pay5 (iblk m c 0 t) (iblk m c 1 t) (iblk m c 2 t) (iblk m c 3 t) (iblk m c 4 t) (iblk m c 5 t) (iblk m c 6 t)) (iblk m c 5 t) y
      = streamCols (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 8).blk t).view.emb y) := by
  pointwise [k0_pay1, k0_pay5, k0_pay3, streamCols]
  simp only [gain_at, weight1_at m c t _ (y 2)]
  blk_point [iblk, V, places t]

set_option maxHeartbeats 1600000 in
/-- The array of the time mixer's stream columns after the run. -/
theorem final8 (c : Dev nD) : (dats m 0 c).arrAt 8 (cfgs 0).N
    = streamCols (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  blk_simp; rw [after0_8]; frame_out
  exact point8 m c t y

set_option maxHeartbeats 1600000 in
/-- What a grid point stores for the low-rank columns, at an index of its block, is the reference at the place of that index. -/
theorem point9 (c : Dev nD) (t : Fin cfg0.N) (y) :
    k0_pay2 (k0_pay5 (iblk m c 0 t) (iblk m c 1 t) (iblk m c 2 t) (iblk m c 3 t) (iblk m c 4 t) (iblk m c 5 t) (iblk m c 6 t)) (iblk m c 6 t) y
      = lowRankCols (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 9).blk t).view.emb y) := by
  pointwise [k0_pay2, k0_pay5, k0_pay3, lowRankCols]
  have e2 : (((cfg0.win 9).blk t).view.emb y 2).val = (y 2).val := by blk_ext [places t]
  split
  · rename_i h
    have h' : (y 2).val < 160 := e2 ▸ h
    simp only [gain_at, weight2_at m c t _ (y 2) h']
    blk_point [iblk, V, places t]
  · rename_i h
    have h' : ¬ (y 2).val < 160 := fun k => h (e2.symm ▸ k)
    simp only [weight2_past m c t _ (y 2) h']
    rw [Finset.sum_eq_zero]
    · simp [FloatOps.sitofp]
    · intro k _
      simp [FloatOps.sitofp]

set_option maxHeartbeats 1600000 in
/-- The array of the low-rank columns after the run. -/
theorem final9 (c : Dev nD) : (dats m 0 c).arrAt 9 (cfgs 0).N
    = lowRankCols (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 9 _ (by decide +kernel) fun t hf y => ?_
  blk_simp; rw [after0_9]; frame_out
  exact point9 m c t y

end Cert.Proof.InProj

end
-- ==== Proof.InProjClaims.lean ====
/- The claims about the input projection: the two runs of each program, and that the results agree. -/
module

public import proofs.«01_k».proof.Defs
public import proofs.«01_k».proof.Proof.Gen.InProj.Frame
public import proofs.«01_k».proof.Proof.InProjValue

@[expose] public section

noncomputable section

namespace Cert.Proof.InProj

open Idealize.ShloMosaic Idealize.ShloMosaic.TcCoe Idealize.SL.Sem

/-- The kernel at the machine's floats runs to an end and leaves its arguments. -/
theorem quiet_kernel : quiescent_InProj := fun m g _ => Cert.InProj.Gen.frame m g

/-- The kernel over the extended reals runs to an end and leaves its arguments. -/
theorem quiet_ideal : quiescent_InProjIdeal := fun m g _ => Cert.InProjIdeal.Gen.frame m g

section Ref

open Cert.InProjRefIdeal Cert.InProjRefIdeal.Gen

/-- The reference's three results and its arguments after any run, for the arguments it was given. -/
theorem run_ref (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v20) = mixerCols (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v21) = streamCols (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v23) = lowRankCols (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.InProjRefIdeal.Value.run m g

end Ref

/-- The reference runs to an end and leaves its arguments. -/
theorem quiet_ref : quiescent_InProjRefIdeal := fun m g _ =>
  (θ_run Cert.InProjRefIdeal.defs _ _).mono (fun r h => ⟨fun c => (h c).2.2.2, sem_eq_zero_of_no_sems (by decide) r.2⟩)
    (run_ref m g)

/-- No operation of the kernel was rewritten. -/
theorem preserved : preserves_InProj_InProjIdeal := trivial

/-- Over the extended reals the kernel's three results are the reference's. -/
theorem agree : algebraic_InProjIdeal_InProjRefIdeal := fun m g m' g' _ hag =>
  ⟨_, _, _, (θ_run Cert.InProjIdeal.defs _ _).mono (fun _ h c =>
      ⟨(h c).1.trans (final7 m c), (h c).2.1.trans (final8 m c), (h c).2.2.1.trans (final9 m c), (h c).2.2.2⟩)
      (Cert.InProjIdeal.Value.run_blocks m g),
    (θ_run Cert.InProjRefIdeal.defs _ _).mono (fun _ h c => by
      obtain ⟨a0, a1, a2, a3, a4⟩ := hag c
      have k := h c
      rw [a0, a1, a2, a3, a4] at k
      rw [a0, a1, a2, a3, a4]
      exact k) (run_ref m' g')⟩

end Cert.Proof.InProj

end
-- ==== Proof.MixOutScalar.lean ====
/- The scalar functions of the output mix over the extended reals, and the sums over a group of 64 columns. -/
module

public import Idealize.ShloMosaic.PureOps.Ideal
public import Idealize.ShloMosaic.Lib.Pointwise

@[expose] public section

noncomputable section

namespace Cert.Proof.MixOut

open Idealize.ShloMosaic

/-- The pattern of two. -/
theorem ofBits_two : Ideal.ofBits .f32 0x40000000#32 = ((2 : ℝ) : EReal) := by
  simp [Ideal.ofBits, Ideal.ieee, -EReal.coe_mul]; norm_num

/-- The pattern of sixty-four. -/
theorem ofBits_64 : Ideal.ofBits .f32 0x42800000#32 = ((64 : ℝ) : EReal) := by
  simp [Ideal.ofBits, Ideal.ieee, -EReal.coe_mul]; norm_num

/-- The pattern of one sixty-fourth. -/
theorem ofBits_inv_64 : Ideal.ofBits .f32 0x3C800000#32 = ((1 / 64 : ℝ) : EReal) := by
  simp [Ideal.ofBits, Ideal.ieee, -EReal.coe_mul]; norm_num

/-- The pattern of infinity. -/
theorem ofBits_top : Ideal.ofBits .f32 0x7F800000#32 = ⊤ := by
  simp [Ideal.ofBits, Ideal.ieee]

/-- The pattern of minus infinity. -/
theorem ofBits_bot : Ideal.ofBits .f32 0xFF800000#32 = ⊥ := by
  simp [Ideal.ofBits, Ideal.ieee]

/-- The pattern of 128. -/
theorem ofBits_128 : Ideal.ofBits .f32 0x43000000#32 = ((128 : ℝ) : EReal) := by
  simp [Ideal.ofBits, Ideal.ieee, -EReal.coe_mul]; norm_num

/-- The pattern of 56. -/
theorem ofBits_56 : Ideal.ofBits .f32 0x42600000#32 = ((56 : ℝ) : EReal) := by
  simp [Ideal.ofBits, Ideal.ieee, -EReal.coe_mul]; norm_num

/-- The pattern of one. -/
theorem ofBits_1 : Ideal.ofBits .f32 0x3F800000#32 = ((1 : ℝ) : EReal) := by
  simp [Ideal.ofBits, Ideal.ieee, -EReal.coe_mul]; norm_num

/-- The pattern of zero. -/
theorem ofBits_0 : Ideal.ofBits .f32 0x00000000#32 = ((0 : ℝ) : EReal) := by
  simp [Ideal.ofBits, Ideal.ieee]

/-- The Gaussian error unit of a number. -/
def unit (x : EReal) : EReal :=
  Ideal.ofBits .f32 0x3F000000#32 * x * (1 + Ideal.erf (x * (((Real.sqrt 2)⁻¹ : ℝ) : EReal)))

/-- A column of the group that `j` lies in. -/
def col (j : Fin 512) (l : Fin 64) : Fin 512 := ⟨64 * (j.val / 64) + l.val, by omega⟩

/-- A column less its group's mean. -/
def deviation (f : Fin 512 → EReal) (j : Fin 512) : EReal := f j - (∑ l : Fin 64, f (col j l)) * ((1 / 64 : ℝ) : EReal)

/-- A column of a group lies in that group. -/
theorem col_col (j : Fin 512) (l k : Fin 64) : col (col j l) k = col j k := by
  apply Fin.ext; simp only [col]; omega

/-- A deviation within the group of `j`, with the group's columns written from `j`. -/
theorem deviation_col (f : Fin 512 → EReal) (j : Fin 512) (l : Fin 64) :
    deviation f (col j l) = f (col j l) - (∑ k : Fin 64, f (col j k)) * ((1 / 64 : ℝ) : EReal) := by
  simp only [deviation, col_col]

/-- A column less its group's mean, over the root of the group's variance plus a small constant. -/
def normed (f : Fin 512 → EReal) (j : Fin 512) : EReal :=
  deviation f j * Ideal.rsqrt ((∑ l : Fin 64, deviation f (col j l) * deviation f (col j l)) * ((1 / 64 : ℝ) : EReal)
    + Ideal.ofBits .f32 0x3A27C5AC#32)

/-- Being a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {n : ℕ} {f : Fin n → EReal} (h : ∀ k, IsReal (f k)) : IsReal (∑ k, f k) :=
  Finset.sum_induction f IsReal (fun _ _ => IsReal.add) ⟨0, by simp⟩ fun k _ => h k

/-- A real number less itself is zero. -/
theorem IsReal.sub_self {x : EReal} (h : IsReal x) : x - x = 0 := by
  obtain ⟨a, rfl⟩ := h; rw [← EReal.coe_sub, _root_.sub_self, EReal.coe_zero]

/-- A deviation of real columns is real. -/
theorem isReal_deviation {f : Fin 512 → EReal} (h : ∀ k, IsReal (f k)) (j : Fin 512) : IsReal (deviation f j) :=
  (h j).sub ((IsReal.sum fun _ => h _).mul ⟨_, rfl⟩)

/-- Summing over all columns with the group's indicator sums over the group. -/
theorem sum_group (f : Fin 512 → EReal) (j : Fin 512) :
    ∑ k : Fin 512, f k * (if k.val / 64 = j.val / 64 then 1 else 0) = ∑ l : Fin 64, f (col j l) := by
  rw [Fin.sum_univ_tiles 8 64 rfl, Finset.sum_eq_single (⟨j.val / 64, by omega⟩ : Fin 8)]
  · refine Finset.sum_congr rfl fun l _ => ?_
    have e : (⟨j.val / 64 * 64 + l.val, by omega⟩ : Fin 512) = col j l := by
      apply Fin.ext; simp only [col]; omega
    rw [if_pos (by dsimp only; omega), mul_one]
    exact congrArg f e
  · intro i _ hi
    refine Finset.sum_eq_zero fun l _ => ?_
    rw [if_neg, mul_zero]
    intro h; apply hi; apply Fin.ext; dsimp only at h ⊢; omega
  · intro h; exact absurd (Finset.mem_univ _) h

/-- The same with the columns in two parts, a column and what is left of it (nothing, for a real column). -/
theorem sum_group_split (f : Fin 512 → EReal) (h : ∀ k, IsReal (f k)) (j : Fin 512) :
    ∑ k : Fin 512, f k * (if k.val / 64 = j.val / 64 then 1 else 0)
      + ∑ k : Fin 512, (f k - f k) * (if k.val / 64 = j.val / 64 then 1 else 0) = ∑ l : Fin 64, f (col j l) := by
  have z : ∑ k : Fin 512, (f k - f k) * (if k.val / 64 = j.val / 64 then (1 : EReal) else 0) = 0 :=
    Finset.sum_eq_zero fun k _ => by rw [(h k).sub_self, zero_mul]
  rw [z, add_zero, sum_group]

end Cert.Proof.MixOut

end
-- ==== Proof.MixOutSpec.lean ====
/- The output mix as the reference writes it, stage by stage: the gated state-space branch, the group-normalised recurrent
   branch, the residual with their joint projection, and its modulated RMS normalisation. Each stage is also read at an index. -/
module

public import proofs.«01_k».proof.Proof.Gen.MixOutRefIdeal.Run
public import proofs.«01_k».proof.Proof.MixOutScalar
public import Idealize.ShloMosaic.Lib.Pointwise

@[expose] public section

set_option maxRecDepth 16384

noncomputable section

namespace Cert.Proof.MixOut

open Cert.MixOutRefIdeal Cert.MixOutRefIdeal.Gen
open Idealize.ShloMosaic Idealize.ShloMosaic.TcCoe Idealize.SL.Sem Idealize.ShloMosaic.StableHlo

/-- The Gaussian error unit: half of `x` times one plus the error function of `x` over the root of two. -/
def geluArray (x : FVec Ideal S32x2048x512 .f32) : FVec Ideal S32x2048x512 .f32 :=
  mulf (mulf (broadcastInDim S32x2048x512 ![] bcast_S_S32x2048x512 (constant S_ .f32 0x3F000000#32)) x)
    (addf (broadcastInDim S32x2048x512 ![] bcast_S_S32x2048x512 (constant S_ .f32 0x3F800000#32))
      (Host.erf (Host.divf x (broadcastInDim S32x2048x512 ![] bcast_S_S32x2048x512 (Host.sqrt (constant S_ .f32 0x40000000#32))))))

/-- The state-space branch: the unit's value times the logistic of its projection plus the bias. -/
def s5Part (x : FVec Ideal S32x2048x512 .f32) (w : FVec Ideal S512x512 .f32) (b : FVec Ideal S512 .f32) :
    FVec Ideal S32x2048x512 .f32 :=
  mulf (geluArray x)
    (Host.divf (broadcastInDim S32x2048x512 ![] bcast_S_S32x2048x512 (constant S_ .f32 0x3F800000#32))
      (addf (broadcastInDim S32x2048x512 ![] bcast_S_S32x2048x512 (constant S_ .f32 0x3F800000#32))
        (Host.exp (Host.negf (addf (Host.dotGeneral dot_S32x2048x512_S512x512_S32x2048x512_2_0_01_1_n_n none (geluArray x) w)
          (broadcastInDim S32x2048x512 ![0, 1, 2] bcast_S1x1x512_S32x2048x512_0_1_2
            (broadcastInDim S1x1x512 ![2] bcast_S512_S1x1x512_2 b)))))))

/-- The sum of the two recurrent streams, in eight groups of 64 columns. -/
def grouped (y : FVec Ideal S2x32x2048x512 .f32) : FVec Ideal S32x2048x8x64 .f32 :=
  shapeCast _ (addf
      (shapeCast _ (extractStridedSlice S1x32x2048x512 ![0, 0, 0, 0] y slices_S2x32x2048x512_S1x32x2048x512_0_0_0_0)
        shapeCasts_S1x32x2048x512_S32x2048x512)
      (shapeCast _ (extractStridedSlice S1x32x2048x512 ![1, 0, 0, 0] y slices_S2x32x2048x512_S1x32x2048x512_1_0_0_0)
        shapeCasts_S1x32x2048x512_S32x2048x512)) shapeCasts_S32x2048x512_S32x2048x8x64

/-- Each group's mean. -/
def groupMean (z : FVec Ideal S32x2048x8x64 .f32) : FVec Ideal S32x2048x8x1 .f32 :=
  Host.divf (broadcastInDim S32x2048x8x1 ![0, 1, 2] bcast_S32x2048x8_S32x2048x8x1_0_1_2
      (Host.reduceAdd z (constant S_ .f32 0x00000000#32) reducesTo_S32x2048x8x64_S32x2048x8_d3 h_S_))
    (broadcastInDim S32x2048x8x1 ![] bcast_S_S32x2048x8x1 (constant S_ .f32 0x42800000#32))

/-- The groups less their means. -/
def centred (z : FVec Ideal S32x2048x8x64 .f32) : FVec Ideal S32x2048x8x64 .f32 :=
  subf z (broadcastInDim S32x2048x8x64 ![0, 1, 2, 3] bcast_S32x2048x8x1_S32x2048x8x64_0_1_2_3 (groupMean z))

/-- The recurrent branch: the groups normalised to unit variance, scaled and shifted per column, plus the bonus, gated. -/
def rwPart (y : FVec Ideal S2x32x2048x512 .f32) (bonus gate : FVec Ideal S32x2048x512 .f32) (lw lb : FVec Ideal S512 .f32) :
    FVec Ideal S32x2048x512 .f32 :=
  mulf (shapeCast _ (addf (addf (mulf (mulf (centred (grouped y))
      (broadcastInDim S32x2048x8x64 ![0, 1, 2, 3] bcast_S32x2048x8x1_S32x2048x8x64_0_1_2_3
        (Host.rsqrt (addf (groupMean (mulf (centred (grouped y)) (centred (grouped y))))
          (broadcastInDim S32x2048x8x1 ![] bcast_S_S32x2048x8x1 (constant S_ .f32 0x3A27C5AC#32))))))
      (broadcastInDim S32x2048x8x64 ![0, 1, 2, 3] bcast_S1x1x8x64_S32x2048x8x64_0_1_2_3
        (broadcastInDim S1x1x8x64 ![2, 3] bcast_S8x64_S1x1x8x64_2_3 (shapeCast _ lw shapeCasts_S512_S8x64))))
      (broadcastInDim S32x2048x8x64 ![0, 1, 2, 3] bcast_S1x1x8x64_S32x2048x8x64_0_1_2_3
        (broadcastInDim S1x1x8x64 ![2, 3] bcast_S8x64_S1x1x8x64_2_3 (shapeCast _ lb shapeCasts_S512_S8x64))))
      (shapeCast _ bonus shapeCasts_S32x2048x512_S32x2048x8x64)) shapeCasts_S32x2048x8x64_S32x2048x512) gate

/-- The residual stream: the input plus the batch row's gate times the projection of the two branches side by side. -/
def residual (s r : FVec Ideal S32x2048x512 .f32) (x : FVec Ideal S32x2048x1024 .f32) (g : FVec Ideal S32x1x1024 .f32)
    (w : FVec Ideal S1024x1024 .f32) : FVec Ideal S32x2048x1024 .f32 :=
  addf x (mulf (broadcastInDim S32x2048x1024 ![0, 1, 2] bcast_S32x1x1024_S32x2048x1024_0_1_2 g)
    (Host.dotGeneral dot_S32x2048x1024_S1024x1024_S32x2048x1024_2_0_01_1_n_n none
      (concatenate S32x2048x1024 2 [⟨S32x2048x512, s⟩, ⟨S32x2048x512, r⟩]
        concatenates_S32x2048x512_S32x2048x512_S32x2048x1024_d2) w))

/-- The rows of the residual stream over their root mean square, scaled, modulated and shifted. -/
def modulated (h : FVec Ideal S32x2048x1024 .f32) (shift scale : FVec Ideal S32x1x1024 .f32) (gain : FVec Ideal S1024 .f32) :
    FVec Ideal S32x2048x1024 .f32 :=
  addf (mulf (mulf (mulf h (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf h h) (constant S_ .f32 0x00000000#32) reducesTo_S32x2048x1024_S32x2048_d2 h_S_))
          (broadcastInDim S32x2048x1 ![] bcast_S_S32x2048x1 (constant S_ .f32 0x44800000#32)))
        (broadcastInDim S32x2048x1 ![] bcast_S_S32x2048x1 (constant S_ .f32 0x358637BD#32))))))
      (broadcastInDim S32x2048x1024 ![0, 1, 2] bcast_S1x1x1024_S32x2048x1024_0_1_2
        (broadcastInDim S1x1x1024 ![2] bcast_S1024_S1x1x1024_2 gain)))
      (broadcastInDim S32x2048x1024 ![0, 1, 2] bcast_S32x1x1024_S32x2048x1024_0_1_2
        (addf (broadcastInDim S32x1x1024 ![] bcast_S_S32x1x1024 (constant S_ .f32 0x3F800000#32)) scale)))
    (broadcastInDim S32x2048x1024 ![0, 1, 2] bcast_S32x1x1024_S32x2048x1024_0_1_2 shift)

/-- The unit's array at an index. -/
theorem geluArray_at (x : FVec Ideal S32x2048x512 .f32) (b : Fin 32) (t : Fin 2048) (j : Fin 512) :
    geluArray x (ix3 b t j) = unit (x (ix3 b t j)) := by
  pointwise [geluArray]
  simp only [ofBits_two, Ideal.sqrt_coe, show ¬(2 : ℝ) < 0 from by norm_num, ↓reduceIte,
    Ideal.div_coe (show Real.sqrt 2 ≠ 0 from (Real.sqrt_pos.mpr (by norm_num)).ne'), one_div, unit]

/-- The state-space branch at an index. -/
theorem s5Part_at (x : FVec Ideal S32x2048x512 .f32) (w : FVec Ideal S512x512 .f32) (v : FVec Ideal S512 .f32)
    (b : Fin 32) (t : Fin 2048) (j : Fin 512) :
    s5Part x w v (ix3 b t j) = unit (x (ix3 b t j))
      * Ideal.logistic (∑ k : Fin 512, unit (x (ix3 b t k)) * w (ix2 k j) + v (ix1 j)) := by
  pointwise [s5Part, geluArray_at]
  rfl

/-- The group's mean at an index. -/
theorem groupMean_at (z : FVec Ideal S32x2048x8x64 .f32) (b : Fin 32) (t : Fin 2048) (g : Fin 8) (u : Fin 1) :
    groupMean z (ix4 b t g u) = (∑ l : Fin 64, z (ix4 b t g l)) * ((1 / 64 : ℝ) : EReal) := by
  pointwise [groupMean]
  simp only [ofBits_64, Ideal.div_coe (show (64 : ℝ) ≠ 0 by norm_num), zero_add]

/-- The sum of the streams at an index. -/
theorem grouped_at (y : FVec Ideal S2x32x2048x512 .f32) (b : Fin 32) (t : Fin 2048) (g : Fin 8) (l : Fin 64) :
    grouped y (ix4 b t g l) = y (ix4 0 b t ⟨g.val * 64 + l.val, by omega⟩) + y (ix4 1 b t ⟨g.val * 64 + l.val, by omega⟩) := by
  pointwise [grouped]

/-- The recurrent branch at an index. -/
theorem rwPart_at (y : FVec Ideal S2x32x2048x512 .f32) (bonus gate : FVec Ideal S32x2048x512 .f32) (lw lb : FVec Ideal S512 .f32)
    (b : Fin 32) (t : Fin 2048) (j : Fin 512) :
    rwPart y bonus gate lw lb (ix3 b t j)
      = (normed (fun k => y (ix4 0 b t k) + y (ix4 1 b t k)) j * lw (ix1 j) + lb (ix1 j) + bonus (ix3 b t j)) * gate (ix3 b t j) := by
  pointwise [rwPart, groupMean_at, centred, grouped_at]
  have e : ∀ (l : Fin 64) (h : j.val / 64 * 64 + l.val < 512), (⟨j.val / 64 * 64 + l.val, h⟩ : Fin 512) = col j l := fun l _ =>
    Fin.ext (by simp only [col]; omega)
  have e' : ∀ h : j.val / 64 * 64 + j.val % 64 < 512, (⟨j.val / 64 * 64 + j.val % 64, h⟩ : Fin 512) = j := fun _ =>
    Fin.ext (by dsimp only; omega)
  simp only [normed, deviation_col, e, e']
  rfl

/-- The residual stream at an index. -/
theorem residual_at (s r : FVec Ideal S32x2048x512 .f32) (x : FVec Ideal S32x2048x1024 .f32) (g : FVec Ideal S32x1x1024 .f32)
    (w : FVec Ideal S1024x1024 .f32) (b : Fin 32) (t : Fin 2048) (d : Fin 1024) :
    residual s r x g w (ix3 b t d) = x (ix3 b t d) + g (ix3 b 0 d)
      * (∑ k : Fin 512, s (ix3 b t k) * w (ix2 ⟨k.val, by omega⟩ d) + ∑ k : Fin 512, r (ix3 b t k) * w (ix2 ⟨512 + k.val, by omega⟩ d)) := by
  pointwise [residual]

/-- The modulated stream at an index. -/
theorem modulated_at (h : FVec Ideal S32x2048x1024 .f32) (shift scale : FVec Ideal S32x1x1024 .f32) (gain : FVec Ideal S1024 .f32)
    (b : Fin 32) (t : Fin 2048) (d : Fin 1024) :
    modulated h shift scale gain (ix3 b t d) = h (ix3 b t d)
        * Ideal.rsqrt (Ideal.div (∑ k : Fin 1024, h (ix3 b t k) * h (ix3 b t k)) (Ideal.ofBits .f32 0x44800000#32)
          + Ideal.ofBits .f32 0x358637BD#32)
        * gain (ix1 d) * (1 + scale (ix3 b 0 d)) + shift (ix3 b 0 d) := by
  pointwise [modulated]

end Cert.Proof.MixOut

end
-- ==== Proof.MixOutPure.lean ====
/- What the output mix's kernel computes from its blocks, read at an index of a block. -/
module

public import proofs.«01_k».proof.Proof.Gen.MixOutIdeal.Skeleton
public import proofs.«01_k».proof.Proof.MixOutScalar
public import Idealize.ShloMosaic.Lib.Pointwise

@[expose] public section

set_option maxRecDepth 16384

noncomputable section

namespace Cert.Proof.MixOut

open Cert.MixOutIdeal Cert.MixOutIdeal.Gen
open Idealize.ShloMosaic Idealize.ShloMosaic.TcCoe Idealize.SL.Sem

/-- The kernel's named constant is one over the root of two. -/
theorem inv_sqrt_2 : Named.named (F := Ideal) κ "inv_sqrt_2" (φ := .f32) 0x3F3504F3#32 = (((Real.sqrt 2)⁻¹ : ℝ) : EReal) :=
  IdealRules.named_const.ideal_named_scalar _ _ _ _ rfl

/-- Floor division by 64 as the kernel computes it on the column numbers: the quotient, less one where signs differ and a
    remainder is left. -/
def floorDiv64 (v : BitVec 32) : BitVec 32 :=
  Scalar.select
    (IntOp.andi
      (IntOp.cmpi CmpIPredicate.ne
        (IntOp.subi (BitVec.setWidth 32 (IntOp.cmpi CmpIPredicate.sgt v 0#32))
          (BitVec.setWidth 32 (IntOp.cmpi CmpIPredicate.slt v 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector v 64#32) 0#32))
    (IntOp.subi (IntOp.divsi ArithUnit.vector v 64#32) 1#32)
    (IntOp.divsi ArithUnit.vector v 64#32)

/-- On a column number it is the number of the column's group. -/
theorem floorDiv64_eq : ∀ a : Fin 512, floorDiv64 (BitVec.ofNat 32 a.val) = BitVec.ofNat 32 (a.val / 64) := by
  decide +kernel

/-- The kernel's matrix of groups: the segment matrix, one where row and column lie in one group. -/
abbrev segments : FVec Ideal S512x512 .bf16 :=
  k0_pay6 (F := Ideal) (iota .tc S512x512 32 [0] iota_S512x512_d0_w32) 64#32 k0_pay4 k0_pay5 0#32

theorem segments_at (a b : Fin 512) : segments (ix2 a b) = if a.val / 64 = b.val / 64 then 1 else 0 := by
  have h : segments (ix2 a b)
      = Scalar.select (IntOp.cmpi CmpIPredicate.eq (floorDiv64 (BitVec.ofNat 32 a.val)) (floorDiv64 (BitVec.ofNat 32 b.val)))
        (1 : EReal) 0 := by
    pointwise [segments, k0_pay6, k0_pay4, k0_pay5, floorDiv64]
  rw [h, floorDiv64_eq, floorDiv64_eq]
  by_cases e : a.val / 64 = b.val / 64
  · rw [if_pos e, e]; simp [Scalar.select, IntOp.cmpi]
  · have n : BitVec.ofNat 32 (a.val / 64) ≠ BitVec.ofNat 32 (b.val / 64) := fun k => e (by
      have k' := congrArg BitVec.toNat k
      simp only [BitVec.toNat_ofNat] at k'
      omega)
    rw [if_neg e]; simp [Scalar.select, IntOp.cmpi, beq_eq_false_iff_ne.mpr n]

/-- The state-space branch of a block. -/
theorem s5_pay (x : FVec Ideal S1x512x512 .f32) (w : FVec Ideal S512x512 .bf16) (v : FVec Ideal S1x512 .f32) (r j : Fin 512) :
    k0_pay2 (F := Ideal) x w v (ix2 r j) = unit (x (ix3 0 r j))
      * Ideal.logistic (∑ k : Fin 512, unit (x (ix3 0 r k)) * w (ix2 k j) + v (ix2 0 j)) := by
  pointwise [k0_pay2, inv_sqrt_2, unit]
  rfl

/-- The recurrent branch of a block of real numbers. -/
theorem rw_pay (y : FVec Ideal S512x512 .f32) (lw lb : FVec Ideal S1x512 .f32) (bonus gate : FVec Ideal S1x512x512 .f32)
    (r j : Fin 512) (h : ∀ k : Fin 512, IsReal (y (ix2 r k))) :
    k0_pay10 (F := Ideal) y segments (k0_pay7 y) (k0_pay8 y) lw lb bonus gate (ix2 r j)
      = (normed (fun k => y (ix2 r k)) j * lw (ix2 0 j) + lb (ix2 0 j) + bonus (ix3 0 r j)) * gate (ix3 0 r j) := by
  have m : ∀ k : Fin 512, ∑ x : Fin 512, y (ix2 r x) * (if x.val / 64 = k.val / 64 then 1 else 0)
      + ∑ x : Fin 512, (y (ix2 r x) - y (ix2 r x)) * (if x.val / 64 = k.val / 64 then 1 else 0)
      = ∑ l : Fin 64, y (ix2 r (col k l)) := fun k => sum_group_split (fun x => y (ix2 r x)) h k
  have d := isReal_deviation h
  have v := sum_group_split (fun k => deviation (fun k => y (ix2 r k)) k * deviation (fun k => y (ix2 r k)) k)
    (fun k => (d k).mul (d k)) j
  simp only [deviation] at v
  pointwise [k0_pay10, k0_pay7, k0_pay8, segments_at]
  simp only [m, ofBits_inv_64, v, normed, deviation]

/-- The residual stream of a block, from its two branches. -/
theorem residual_pay (s : FVec Ideal S512x512 .f32) (r : FVec Ideal S512x512 .bf16) (w0 w1 : FVec Ideal S512x1024 .bf16)
    (x : FVec Ideal S1x512x1024 .f32) (g : FVec Ideal S1x1x1024 .f32) (a : Fin 512) (d : Fin 1024) :
    k0_pay11 (F := Ideal) (k0_pay9 s w0) r w1 x g (ix2 a d) = x (ix3 0 a d) + g (ix3 0 0 d)
      * (∑ k : Fin 512, s (ix2 a k) * w0 (ix2 k d) + ∑ k : Fin 512, r (ix2 a k) * w1 (ix2 k d)) := by
  pointwise [k0_pay11, k0_pay9]

/-- The modulated stream of a block, from its residual stream `h`. -/
theorem modulated_pay (s : FVec Ideal S512x1024 .f32) (r : FVec Ideal S512x512 .bf16) (w1 : FVec Ideal S512x1024 .bf16)
    (x : FVec Ideal S1x512x1024 .f32) (g : FVec Ideal S1x1x1024 .f32) (gain : FVec Ideal S1x1024 .f32)
    (scale shift : FVec Ideal S1x1x1024 .f32) (u : Fin 1) (a : Fin 512) (d : Fin 1024) (h : Fin 1024 → EReal)
    (e : ∀ k, k0_pay11 (F := Ideal) s r w1 x g (ix2 a k) = h k) :
    k0_pay1 (F := Ideal) (k0_pay13 s r w1 x g gain scale) shift (ix3 u a d) = h d
        * Ideal.rsqrt (Ideal.div (∑ k : Fin 1024, h k * h k) (Ideal.ofBits .f32 0x44800000#32)
          + Ideal.ofBits .f32 0x358637BD#32)
        * gain (ix2 0 d) * (1 + scale (ix3 0 0 d)) + shift (ix3 0 0 d) := by
  pointwise [k0_pay1, k0_pay13, e]

/-- The residual stream is stored as it is. -/
theorem stored_pay (s : FVec Ideal S512x1024 .f32) (r : FVec Ideal S512x512 .bf16) (w1 : FVec Ideal S512x1024 .bf16)
    (x : FVec Ideal S1x512x1024 .f32) (g : FVec Ideal S1x1x1024 .f32) (u : Fin 1) (a : Fin 512) (d : Fin 1024) :
    k0_pay12 (F := Ideal) s r w1 x g (ix3 u a d) = k0_pay11 (F := Ideal) s r w1 x g (ix2 a d) := by
  pointwise [k0_pay12]

end Cert.Proof.MixOut

end
-- ==== Proof.MixOutEntry.lean ====
/- The operands that the host prepares for the output mix's kernel, and each window's block read at an index. -/
module

public import proofs.«01_k».proof.Proof.Gen.MixOutIdeal.Value
public import Idealize.ShloMosaic.Lib.Pipeline.ValueKit
public import Idealize.ShloMosaic.Lib.Pointwise

@[expose] public section

set_option maxRecDepth 16384

noncomputable section

namespace Cert.Proof.MixOut

open Cert.MixOutIdeal Cert.MixOutIdeal.Gen
open Idealize.ShloMosaic Idealize.ShloMosaic.TcCoe Idealize.SL.Sem

variable (m : (ℓ : Loc nD τ sig) → Buf (Elt Ideal) ℓ)

/-- What the host leaves in each prepared operand: vectors reshaped to rows, matrices and the two halves of the projection in
    another format. -/
theorem entries (c : Dev nD) :
    V m c main_v0 = shapeCast S1x1024 (m ((c : Thread nD τ).loc main_arg8)) shapeCasts_S1024_S1x1024
    ∧ V m c main_v1 = truncf (F := Ideal) .bf16 (m ((c : Thread nD τ).loc main_arg9)) bitsLt_bf16_f32
    ∧ V m c main_v2 = shapeCast S1x512 (m ((c : Thread nD τ).loc main_arg10)) shapeCasts_S512_S1x512
    ∧ V m c main_v3 = shapeCast S1x512 (m ((c : Thread nD τ).loc main_arg11)) shapeCasts_S512_S1x512
    ∧ V m c main_v4 = shapeCast S1x512 (m ((c : Thread nD τ).loc main_arg12)) shapeCasts_S512_S1x512
    ∧ V m c main_v6 = truncf (F := Ideal) .bf16 (extractStridedSlice S512x1024 ![0, 0] (m ((c : Thread nD τ).loc main_arg13)) slices_S1024x1024_S512x1024_0_0) bitsLt_bf16_f32
    ∧ V m c main_v8 = truncf (F := Ideal) .bf16 (extractStridedSlice S512x1024 ![512, 0] (m ((c : Thread nD τ).loc main_arg13)) slices_S1024x1024_S512x1024_512_0) bitsLt_bf16_f32 := by
  refine ⟨?_, ?_, ?_, ?_, ?_, ?_, ?_⟩ <;> (unfold V; after_results; try rfl)

/-- Where each window's block lies at a grid point: the point is (batch row, quarter of the tokens). -/
theorem places : ∀ t : Fin cfg0.N, win0_0.index t = ![t.val / 4, t.val % 4, 0]
    ∧ win0_1.index t = ![0, t.val / 4, t.val % 4, 0]
    ∧ win0_2.index t = ![t.val / 4, t.val % 4, 0] ∧ win0_3.index t = ![t.val / 4, t.val % 4, 0]
    ∧ win0_4.index t = ![t.val / 4, t.val % 4, 0]
    ∧ win0_5.index t = ![t.val / 4, 0, 0] ∧ win0_6.index t = ![t.val / 4, 0, 0] ∧ win0_7.index t = ![t.val / 4, 0, 0]
    ∧ win0_15.index t = ![t.val / 4, t.val % 4, 0] ∧ win0_16.index t = ![t.val / 4, t.val % 4, 0] :=
  (by decide +kernel : ∀ t : Fin grid0.N, _)

/-- The windows of the prepared operands are those operands whole. -/
theorem prepared_places : ∀ t : Fin cfg0.N, win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

/-- The batch row of a grid point. -/
def batchRow (t : Fin cfg0.N) : Fin 32 := ⟨t.val / 4, by have : t.val < 128 := t.isLt; omega⟩

/-- The token of a grid point's block row. -/
def token (t : Fin cfg0.N) (r : Fin 512) : Fin 2048 := ⟨t.val % 4 * 512 + r.val, by omega⟩

/-- The state-space output's block. -/
theorem block0 (c : Dev nD) (t : Fin cfg0.N) (r : Fin 512) (k : Fin 512) :
    iblk m c 0 t (ix3 0 r k) = m ((c : Thread nD τ).loc main_arg0) (ix3 (batchRow t) (token t r) k) := by
  show V m c main_arg0 (((cfg0.win 0).blk t).view.emb (ix3 0 r k)) = _
  blk_point [V, batchRow, token, places t]

/-- The two recurrent streams' block. -/
theorem block1 (c : Dev nD) (t : Fin cfg0.N) (s : Fin 2) (r k : Fin 512) :
    iblk m c 1 t (ix4 s 0 r k) = m ((c : Thread nD τ).loc main_arg1) (ix4 s (batchRow t) (token t r) k) := by
  show V m c main_arg1 (((cfg0.win 1).blk t).view.emb (ix4 s 0 r k)) = _
  blk_point [V, batchRow, token, places t]

/-- The bonus's block. -/
theorem block2 (c : Dev nD) (t : Fin cfg0.N) (r : Fin 512) (k : Fin 512) :
    iblk m c 2 t (ix3 0 r k) = m ((c : Thread nD τ).loc main_arg2) (ix3 (batchRow t) (token t r) k) := by
  show V m c main_arg2 (((cfg0.win 2).blk t).view.emb (ix3 0 r k)) = _
  blk_point [V, batchRow, token, places t]

/-- The gate's block. -/
theorem block3 (c : Dev nD) (t : Fin cfg0.N) (r : Fin 512) (k : Fin 512) :
    iblk m c 3 t (ix3 0 r k) = m ((c : Thread nD τ).loc main_arg3) (ix3 (batchRow t) (token t r) k) := by
  show V m c main_arg3 (((cfg0.win 3).blk t).view.emb (ix3 0 r k)) = _
  blk_point [V, batchRow, token, places t]

/-- The input's block. -/
theorem block4 (c : Dev nD) (t : Fin cfg0.N) (r : Fin 512) (k : Fin 1024) :
    iblk m c 4 t (ix3 0 r k) = m ((c : Thread nD τ).loc main_arg4) (ix3 (batchRow t) (token t r) k) := by
  show V m c main_arg4 (((cfg0.win 4).blk t).view.emb (ix3 0 r k)) = _
  blk_point [V, batchRow, token, places t]

/-- The residual gate's block. -/
theorem block5 (c : Dev nD) (t : Fin cfg0.N) (k : Fin 1024) :
    iblk m c 5 t (ix3 0 0 k) = m ((c : Thread nD τ).loc main_arg5) (ix3 (batchRow t) 0 k) := by
  show V m c main_arg5 (((cfg0.win 5).blk t).view.emb (ix3 0 0 k)) = _
  blk_point [V, batchRow, places t]

/-- The shift's block. -/
theorem block6 (c : Dev nD) (t : Fin cfg0.N) (k : Fin 1024) :
    iblk m c 6 t (ix3 0 0 k) = m ((c : Thread nD τ).loc main_arg6) (ix3 (batchRow t) 0 k) := by
  show V m c main_arg6 (((cfg0.win 6).blk t).view.emb (ix3 0 0 k)) = _
  blk_point [V, batchRow, places t]

/-- The scale's block. -/
theorem block7 (c : Dev nD) (t : Fin cfg0.N) (k : Fin 1024) :
    iblk m c 7 t (ix3 0 0 k) = m ((c : Thread nD τ).loc main_arg7) (ix3 (batchRow t) 0 k) := by
  show V m c main_arg7 (((cfg0.win 7).blk t).view.emb (ix3 0 0 k)) = _
  blk_point [V, batchRow, places t]

/-- The gain's block. -/
theorem block8 (c : Dev nD) (t : Fin cfg0.N) (k : Fin 1024) :
    iblk m c 8 t (ix2 0 k) = m ((c : Thread nD τ).loc main_arg8) (ix1 k) := by
  show V m c main_v0 (((cfg0.win 8).blk t).view.emb (ix2 0 k)) = _
  rw [(entries m c).1]
  pointwise
  blk_ext [prepared_places t]

/-- The gate matrix's block. -/
theorem block9 (c : Dev nD) (t : Fin cfg0.N) (k : Fin 512) (j : Fin 512) :
    iblk m c 9 t (ix2 k j) = m ((c : Thread nD τ).loc main_arg9) (ix2 k j) := by
  show V m c main_v1 (((cfg0.win 9).blk t).view.emb (ix2 k j)) = _
  rw [(entries m c).2.1]
  pointwise
  blk_ext [prepared_places t]

/-- The gate bias's block. -/
theorem block10 (c : Dev nD) (t : Fin cfg0.N) (k : Fin 512) :
    iblk m c 10 t (ix2 0 k) = m ((c : Thread nD τ).loc main_arg10) (ix1 k) := by
  show V m c main_v2 (((cfg0.win 10).blk t).view.emb (ix2 0 k)) = _
  rw [(entries m c).2.2.1]
  pointwise
  blk_ext [prepared_places t]

/-- The group norm scale's block. -/
theorem block11 (c : Dev nD) (t : Fin cfg0.N) (k : Fin 512) :
    iblk m c 11 t (ix2 0 k) = m ((c : Thread nD τ).loc main_arg11) (ix1 k) := by
  show V m c main_v3 (((cfg0.win 11).blk t).view.emb (ix2 0 k)) = _
  rw [(entries m c).2.2.2.1]
  pointwise
  blk_ext [prepared_places t]

/-- The group norm shift's block. -/
theorem block12 (c : Dev nD) (t : Fin cfg0.N) (k : Fin 512) :
    iblk m c 12 t (ix2 0 k) = m ((c : Thread nD τ).loc main_arg12) (ix1 k) := by
  show V m c main_v4 (((cfg0.win 12).blk t).view.emb (ix2 0 k)) = _
  rw [(entries m c).2.2.2.2.1]
  pointwise
  blk_ext [prepared_places t]

/-- The upper half of the projection, as a block. -/
theorem block13 (c : Dev nD) (t : Fin cfg0.N) (k : Fin 512) (j : Fin 1024) :
    iblk m c 13 t (ix2 k j) = m ((c : Thread nD τ).loc main_arg13) (ix2 ⟨k.val, by omega⟩ j) := by
  show V m c main_v6 (((cfg0.win 13).blk t).view.emb (ix2 k j)) = _
  rw [(entries m c).2.2.2.2.2.1]
  pointwise
  blk_ext [prepared_places t]

/-- The lower half of the projection, as a block. -/
theorem block14 (c : Dev nD) (t : Fin cfg0.N) (k : Fin 512) (j : Fin 1024) :
    iblk m c 14 t (ix2 k j) = m ((c : Thread nD τ).loc main_arg13) (ix2 ⟨512 + k.val, by omega⟩ j) := by
  show V m c main_v8 (((cfg0.win 14).blk t).view.emb (ix2 k j)) = _
  rw [(entries m c).2.2.2.2.2.2]
  pointwise
  blk_ext [prepared_places t]

/-- Where an index of output block 15 lies in its array. -/
theorem emb15 (t : Fin cfg0.N) (u : Fin 1) (r : Fin 512) (d : Fin 1024) :
    ((cfg0.win 15).blk t).view.emb (ix3 u r d) = ix3 (batchRow t) (token t r) d := by
  blk_ext [batchRow, token, places t]

/-- Where an index of output block 16 lies in its array. -/
theorem emb16 (t : Fin cfg0.N) (u : Fin 1) (r : Fin 512) (d : Fin 1024) :
    ((cfg0.win 16).blk t).view.emb (ix3 u r d) = ix3 (batchRow t) (token t r) d := by
  blk_ext [batchRow, token, places t]

end Cert.Proof.MixOut

end
-- ==== Proof.MixOutValue.lean ====
/- What the output mix's kernel leaves in its two result arrays: the reference's residual stream and its modulated norm,
   when the two recurrent streams hold real numbers. -/
module

public import proofs.«01_k».proof.Proof.MixOutSpec
public import proofs.«01_k».proof.Proof.MixOutPure
public import proofs.«01_k».proof.Proof.MixOutEntry
public import Idealize.ShloMosaic.Lib.Pipeline.ValueKit
public import Idealize.ShloMosaic.Lib.Pointwise

@[expose] public section

set_option maxRecDepth 16384

noncomputable section

namespace Cert.Proof.MixOut

open Cert.MixOutIdeal Cert.MixOutIdeal.Gen
open Idealize.ShloMosaic Idealize.ShloMosaic.TcCoe Idealize.SL.Sem

/-- The sum of the two streams' blocks, at an index. -/
theorem streams_at (x0 : Vec Ideal S1x512x512 .f32) (x1 : Vec Ideal S2x1x512x512 .f32) (x2 : Vec Ideal S1x512x512 .f32) (x3 : Vec Ideal S1x512x512 .f32) (x4 : Vec Ideal S1x512x1024 .f32) (x5 x6 x7 : Vec Ideal S1x1x1024 .f32) (x8 : Vec Ideal S1x1024 .f32) (x9 : Vec Ideal S512x512 .bf16) (x10 x11 x12 : Vec Ideal S1x512 .f32) (x13 x14 : Vec Ideal S512x1024 .bf16) (r k : Fin 512) :
    k0_pay14 x0 x1 x2 x3 x4 x5 x6 x7 x8 x9 x10 x11 x12 x13 x14 (ix2 r k) = x1 (ix4 0 0 r k) + x1 (ix4 1 0 r k) := by
  pointwise [k0_pay14, k0_pay3]

/-- The state-space branch's product with its half of the projection, from the blocks loaded whole. -/
theorem left_eq (x0 : Vec Ideal S1x512x512 .f32) (x1 : Vec Ideal S2x1x512x512 .f32) (x2 : Vec Ideal S1x512x512 .f32) (x3 : Vec Ideal S1x512x512 .f32) (x4 : Vec Ideal S1x512x1024 .f32) (x5 x6 x7 : Vec Ideal S1x1x1024 .f32) (x8 : Vec Ideal S1x1024 .f32) (x9 : Vec Ideal S512x512 .bf16) (x10 x11 x12 : Vec Ideal S1x512 .f32) (x13 x14 : Vec Ideal S512x1024 .bf16) :
    k0_pay15 x0 x1 x2 x3 x4 x5 x6 x7 x8 x9 x10 x11 x12 x13 x14 = k0_pay9 (k0_pay2 x0 x9 x10) x13 := by
  unfold k0_pay15
  rw [View.ld_unit_zero (S := S1x512x512) (by funext i; fin_cases i <;> rfl), View.ld_unit_zero (S := S512x512) (by funext i; fin_cases i <;> rfl),
    View.ld_unit_zero (S := S1x512) (by funext i; fin_cases i <;> rfl), View.ld_unit_zero (S := S512x1024) (by funext i; fin_cases i <;> rfl)]

/-- The recurrent branch, from the blocks loaded whole. -/
theorem right_eq (x0 : Vec Ideal S1x512x512 .f32) (x1 : Vec Ideal S2x1x512x512 .f32) (x2 : Vec Ideal S1x512x512 .f32) (x3 : Vec Ideal S1x512x512 .f32) (x4 : Vec Ideal S1x512x1024 .f32) (x5 x6 x7 : Vec Ideal S1x1x1024 .f32) (x8 : Vec Ideal S1x1024 .f32) (x9 : Vec Ideal S512x512 .bf16) (x10 x11 x12 : Vec Ideal S1x512 .f32) (x13 x14 : Vec Ideal S512x1024 .bf16) :
    k0_pay16 x0 x1 x2 x3 x4 x5 x6 x7 x8 x9 x10 x11 x12 x13 x14
      = k0_pay10 (k0_pay14 x0 x1 x2 x3 x4 x5 x6 x7 x8 x9 x10 x11 x12 x13 x14) segments
          (k0_pay7 (k0_pay14 x0 x1 x2 x3 x4 x5 x6 x7 x8 x9 x10 x11 x12 x13 x14))
          (k0_pay8 (k0_pay14 x0 x1 x2 x3 x4 x5 x6 x7 x8 x9 x10 x11 x12 x13 x14)) x11 x12 x2 x3 := by
  unfold k0_pay16
  rw [View.ld_unit_zero (S := S1x512) (by funext i; fin_cases i <;> rfl), View.ld_unit_zero (S := S1x512) (by funext i; fin_cases i <;> rfl),
    View.ld_unit_zero (S := S1x512x512) (by funext i; fin_cases i <;> rfl), View.ld_unit_zero (S := S1x512x512) (by funext i; fin_cases i <;> rfl)]

variable (m : (ℓ : Loc nD τ sig) → Buf (Elt Ideal) ℓ)

/-- The two recurrent streams. -/
abbrev streams (c : Dev nD) : FVec Ideal S2x32x2048x512 .f32 := m ((c : Thread nD τ).loc main_arg1)

/-- The two recurrent streams hold real numbers. -/
def RealStreams (c : Dev nD) : Prop :=
  ∀ (s : Fin 2) (b : Fin 32) (t : Fin 2048) (k : Fin 512), IsReal (streams m c (ix4 s b t k))

/-- The reference's residual stream of the arguments. -/
abbrev residualOf (c : Dev nD) : FVec Ideal S32x2048x1024 .f32 :=
  residual (s5Part (m ((c : Thread nD τ).loc main_arg0)) (m ((c : Thread nD τ).loc main_arg9)) (m ((c : Thread nD τ).loc main_arg10)))
    (rwPart (m ((c : Thread nD τ).loc main_arg1)) (m ((c : Thread nD τ).loc main_arg2)) (m ((c : Thread nD τ).loc main_arg3))
      (m ((c : Thread nD τ).loc main_arg11)) (m ((c : Thread nD τ).loc main_arg12)))
    (m ((c : Thread nD τ).loc main_arg4)) (m ((c : Thread nD τ).loc main_arg5)) (m ((c : Thread nD τ).loc main_arg13))

/-- The reference's modulated norm of the arguments. -/
abbrev modulatedOf (c : Dev nD) : FVec Ideal S32x2048x1024 .f32 :=
  modulated (residualOf m c) (m ((c : Thread nD τ).loc main_arg6)) (m ((c : Thread nD τ).loc main_arg7)) (m ((c : Thread nD τ).loc main_arg8))

/-- What a grid point computes for the residual stream at a row and a column of its block. -/
theorem residual_point (c : Dev nD) (t : Fin cfg0.N) (h : RealStreams m c) (r : Fin 512) (d : Fin 1024) :
    k0_pay11 (F := Ideal) (k0_pay15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
        (k0_pay16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
        (iblk m c 14 t) (iblk m c 4 t) (iblk m c 5 t) (ix2 r d)
      = residualOf m c (ix3 (batchRow t) (token t r) d) := by
  rw [left_eq, right_eq, residual_pay]
  refine Eq.trans ?_ (residual_at _ _ _ _ _ _ _ _).symm
  have e : ∀ k : Fin 512, k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r k)
      = streams m c (ix4 0 (batchRow t) (token t r) k) + streams m c (ix4 1 (batchRow t) (token t r) k) := fun k => by
    rw [streams_at, block1, block1]
  have f : ∀ k : Fin 512, IsReal (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r k)) := fun k => by
    rw [e]; exact (h 0 _ _ k).add (h 1 _ _ k)
  refine Ideal.add_congr (block4 m c t r d) (Ideal.mul_congr (block5 m c t d) (Ideal.add_congr ?_ ?_))
  · refine Finset.sum_congr rfl fun k _ => ?_
    rw [s5_pay, s5Part_at, block13, block0, block10]
    simp only [block0, block9]
  · refine Finset.sum_congr rfl fun k _ => ?_
    rw [rw_pay _ _ _ _ _ r k f, rwPart_at, block14, block2, block3, block11, block12]
    simp only [e]

set_option maxHeartbeats 1600000 in
/-- The array of the residual stream after the run. -/
theorem final15 (c : Dev nD) (h : RealStreams m c) : (dats m 0 c).arrAt 15 (cfgs 0).N = residualOf m c := by
  refine (dats m 0 c).arrAt_eq_of_covers 15 _ (by decide +kernel) fun t hf y => ?_
  blk_simp; rw [after0_15]; frame_out
  obtain ⟨u, r, d, rfl⟩ : ∃ (u : Fin 1) (r : Fin 512) (d : Fin 1024), y = ix3 u r d := ⟨y 0, y 1, y 2, eq_ix3 y⟩
  rw [emb15]
  refine (stored_pay _ _ _ _ _ u r d).trans ?_
  exact residual_point m c t h r d

set_option maxHeartbeats 1600000 in
/-- The array of the modulated norm after the run. -/
theorem final16 (c : Dev nD) (h : RealStreams m c) : (dats m 0 c).arrAt 16 (cfgs 0).N = modulatedOf m c := by
  refine (dats m 0 c).arrAt_eq_of_covers 16 _ (by decide +kernel) fun t hf y => ?_
  blk_simp; rw [after0_16]; frame_out
  obtain ⟨u, r, d, rfl⟩ : ∃ (u : Fin 1) (r : Fin 512) (d : Fin 1024), y = ix3 u r d := ⟨y 0, y 1, y 2, eq_ix3 y⟩
  rw [emb16]
  refine (modulated_pay _ _ _ _ _ _ _ _ u r d _ (fun k => residual_point m c t h r k)).trans ?_
  rw [block6, block7, block8]
  exact (modulated_at _ _ _ _ _ _ _).symm

end Cert.Proof.MixOut

end
-- ==== Proof.MixOutClaims.lean ====
/- The claims about the output mix: the two runs of each program, the one rewritten constant, and that the results agree. -/
module

public import proofs.«01_k».proof.Defs
public import proofs.«01_k».proof.Proof.Gen.MixOut.Frame
public import proofs.«01_k».proof.Proof.Gen.Pre_finite_streams
public import proofs.«01_k».proof.Proof.MixOutValue
public import Idealize.ShloMosaic.Lib.ReduceAll

@[expose] public section

noncomputable section

namespace Cert.Proof.MixOut

open Idealize.ShloMosaic Idealize.ShloMosaic.TcCoe Idealize.SL.Sem

/-- The kernel at the machine's floats runs to an end and leaves its arguments. -/
theorem quiet_kernel : quiescent_MixOut := fun m g _ => Cert.MixOut.Gen.frame m g

/-- The kernel over the extended reals runs to an end and leaves its arguments. -/
theorem quiet_ideal : quiescent_MixOutIdeal := fun m g _ => Cert.MixOutIdeal.Gen.frame m g

/-- So it does from the arguments that the value claim admits. -/
theorem quiet_ideal_finite : quiescent_MixOutIdeal_pre_finite_streams := fun m g _ => Cert.MixOutIdeal.Gen.frame m g

section Ref

open Cert.MixOutRefIdeal Cert.MixOutRefIdeal.Gen

variable (m : (ℓ : Loc nD τ sig) → Buf (Elt Ideal) ℓ)

/-- The reference's residual stream of its arguments. -/
abbrev refResidual (c : Dev nD) : FVec Ideal S32x2048x1024 .f32 :=
  residual (s5Part (m ((c : Thread nD τ).loc main_arg0)) (m ((c : Thread nD τ).loc main_arg9)) (m ((c : Thread nD τ).loc main_arg10)))
    (rwPart (m ((c : Thread nD τ).loc main_arg1)) (m ((c : Thread nD τ).loc main_arg2)) (m ((c : Thread nD τ).loc main_arg3))
      (m ((c : Thread nD τ).loc main_arg11)) (m ((c : Thread nD τ).loc main_arg12)))
    (m ((c : Thread nD τ).loc main_arg4)) (m ((c : Thread nD τ).loc main_arg5)) (m ((c : Thread nD τ).loc main_arg13))

/-- The reference's modulated norm of its arguments. -/
abbrev refModulated (c : Dev nD) : FVec Ideal S32x2048x1024 .f32 :=
  modulated (refResidual m c) (m ((c : Thread nD τ).loc main_arg6)) (m ((c : Thread nD τ).loc main_arg7)) (m ((c : Thread nD τ).loc main_arg8))

/-- The reference's run names these two arrays. -/
theorem named_residual (c : Dev nD) : Cert.MixOutRefIdeal.Value.res_main_v60 (F := Ideal) m c = refResidual m c := rfl

theorem named_modulated (c : Dev nD) : Cert.MixOutRefIdeal.Value.res_main_v79 (F := Ideal) m c = refModulated m c := rfl

end Ref

/-- The reference runs to an end and leaves its arguments. -/
theorem quiet_ref : quiescent_MixOutRefIdeal := fun m g _ =>
  (θ_run Cert.MixOutRefIdeal.defs _ _).mono (fun r h => ⟨fun c => (h c).2.2, sem_eq_zero_of_no_sems (by decide) r.2⟩)
    (Cert.MixOutRefIdeal.Value.run m g)

/-- So it does from the arguments that the value claim admits. -/
theorem quiet_ref_finite : quiescent_MixOutRefIdeal_pre_finite_streams := fun m g _ =>
  (θ_run Cert.MixOutRefIdeal.defs _ _).mono (fun r h => ⟨fun c => (h c).2.2, sem_eq_zero_of_no_sems (by decide) r.2⟩)
    (Cert.MixOutRefIdeal.Value.run m g)

/-- The one constant that was given a name is the pattern of one over the root of two. -/
theorem preserved : preserves_MixOut_MixOutIdeal :=
  IdealRules.named_const.statement Cert.MixOutIdeal.κ "inv_sqrt_2" .f32 0x3F3504F3#32 (((Real.sqrt 2)⁻¹ : ℝ) : EReal) rfl

/-- A number whose absolute value is below infinity is real. -/
theorem isReal_of_lt {x : EReal} (h : max x (-x) < ⊤) : IsReal x := by
  induction x using EReal.rec with
  | bot => simp at h
  | top => simp at h
  | coe r => exact ⟨r, rfl⟩

/-- The precondition says that the two streams hold real numbers. -/
theorem real_of_pre (m : (ℓ : Loc Cert.MixOutIdeal.nD Cert.MixOutIdeal.τ Cert.MixOutIdeal.sig) → Buf (Elt Ideal) ℓ)
    (h : Pre_MixOutIdeal_finite_streams m) (c : Dev Cert.MixOutIdeal.nD) : RealStreams m c := fun s b t k => by
  have e := congrFun (h c) (fun a => a.elim0)
  have e' := Host.reduce_andi_all _ _ _ _ _ e (ix4 s b t k)
  pointwise at e'
  rw [ofBits_top] at e'
  refine isReal_of_lt (x := streams m c (ix4 s b t k)) ?_
  by_contra n
  exact absurd e' (by rw [show decide (FloatOps.absf (F := Ideal) (φ := .f32) (streams m c (ix4 s b t k)) < (⊤ : EReal)) = false
    from decide_eq_false n]; decide)

/-- Over the extended reals the kernel's two results are the reference's. -/
theorem agree : algebraic_MixOutIdeal_MixOutRefIdeal_pre_finite_streams := fun m g m' g' hp hag =>
  ⟨_, _, (θ_run Cert.MixOutIdeal.defs _ _).mono (fun _ h c =>
      ⟨(h c).1.trans (final15 m c (real_of_pre m hp c)), (h c).2.1.trans (final16 m c (real_of_pre m hp c)), (h c).2.2⟩)
      (Cert.MixOutIdeal.Value.run_blocks m g),
    (θ_run Cert.MixOutRefIdeal.defs _ _).mono (fun _ h c => by
      obtain ⟨a0, a1, a2, a3, a4, a5, a6, a7, a8, a9, a10, a11, a12, a13⟩ := hag c
      have k := h c
      rw [named_residual, named_modulated] at k
      simp only [refModulated, refResidual] at k
      rw [a0, a1, a2, a3, a4, a5, a6, a7, a8, a9, a10, a11, a12, a13] at k
      rw [a0, a1, a2, a3, a4, a5, a6, a7, a8, a9, a10, a11, a12, a13]
      exact k) (Cert.MixOutRefIdeal.Value.run m' g')⟩

end Cert.Proof.MixOut

end
-- ==== Proof.TopKSpec.lean ====
/- The reference's selection of experts, stage by stage, and its run: its two results are these stages composed. -/
module

public import proofs.«01_k».proof.Proof.Gen.TopKRefIdeal
public import Idealize.ShloMosaic.Lib.StableHlo.RunHlo
public import Idealize.ShloMosaic.Lib.StableHlo.RunRead
public import Idealize.ShloMosaic.Lib.Claim
public import Idealize.ShloMosaic.Lib.Pipeline.Regions

@[expose] public section

set_option maxRecDepth 16384

noncomputable section

namespace Cert.Proof.TopK

open Cert.TopKRefIdeal Cert.TopKRefIdeal.Gen
open Idealize.ShloMosaic Idealize.ShloMosaic.TcCoe Idealize.SL.Sem

variable {F : FTy → Type} [FloatOps F]

/-- The queries: two of 128 entries for each token and head. -/
def refQueries (hn : FVec F S65536x1024 .f32) (wq : FVec F S1024x2048 .f32) : FVec F S65536x8x2x128 .f32 :=
  shapeCast S65536x8x2x128 (Host.dotGeneral dot_S65536x1024_S1024x2048_S65536x2048_1_0_0_1_n_n none hn wq) shapeCasts_S65536x2048_S65536x8x2x128

/-- Each query's product with the keys of its head and half. -/
def refScores (hn : FVec F S65536x1024 .f32) (wq : FVec F S1024x2048 .f32) (keys : FVec F S8x2x128x128 .f32) : FVec F S65536x8x2x128 .f32 :=
  transpose S65536x8x2x128 [3, 0, 1, 2] (Host.dotGeneral dot_S8x2x128x128_S65536x8x2x128_S8x2x128x65536_3_3_2_0_01_12 none keys (refQueries hn wq))
    transposes_S8x2x128x65536_S65536x8x2x128_3_0_1_2

/-- The scores of the first half and of the second. -/
def firstHalf (s : FVec F S65536x8x2x128 .f32) : FVec F S65536x8x128 .f32 :=
  shapeCast S65536x8x128 (extractStridedSlice S65536x8x1x128 ![0, 0, 0, 0] s slices_S65536x8x2x128_S65536x8x1x128_0_0_0_0) shapeCasts_S65536x8x1x128_S65536x8x128
/-- The second half of them. -/
def secondHalf (s : FVec F S65536x8x2x128 .f32) : FVec F S65536x8x128 .f32 :=
  shapeCast S65536x8x128 (extractStridedSlice S65536x8x1x128 ![0, 0, 1, 0] s slices_S65536x8x2x128_S65536x8x1x128_0_0_1_0) shapeCasts_S65536x8x1x128_S65536x8x128

/-- The sixteen best of 128 entries, and where they stand. -/
def bestOf128 (x : FVec F S65536x8x128 .f32) : FVec F S65536x8x16 .f32 := (Host.topK S65536x8x16 2 (FloatOps.cmpfTotal .gt) x sliceFits_S65536x8x128_S65536x8x16).1
/-- Where these stand. -/
def placesOf128 (x : FVec F S65536x8x128 .f32) : IVec S65536x8x16 32 := (Host.topK S65536x8x16 2 (FloatOps.cmpfTotal .gt) x sliceFits_S65536x8x128_S65536x8x16).2

/-- The sixteen best of 256 entries, and where they stand. -/
def bestOf256 (x : FVec F S65536x8x256 .f32) : FVec F S65536x8x16 .f32 := (Host.topK S65536x8x16 2 (FloatOps.cmpfTotal .gt) x sliceFits_S65536x8x256_S65536x8x16).1
/-- Where these stand. -/
def placesOf256 (x : FVec F S65536x8x256 .f32) : IVec S65536x8x16 32 := (Host.topK S65536x8x16 2 (FloatOps.cmpfTotal .gt) x sliceFits_S65536x8x256_S65536x8x16).2

/-- Every sum of one of the first half's best and one of the second's. -/
def pairSums (a b : FVec F S65536x8x16 .f32) : FVec F S65536x8x256 .f32 :=
  shapeCast S65536x8x256 (addf
    (broadcastInDim S65536x8x16x16 ![0, 1, 2, 3] bcast_S65536x8x16x1_S65536x8x16x16_0_1_2_3 (broadcastInDim S65536x8x16x1 ![0, 1, 2] bcast_S65536x8x16_S65536x8x16x1_0_1_2 a))
    (broadcastInDim S65536x8x16x16 ![0, 1, 2, 3] bcast_S65536x8x1x16_S65536x8x16x16_0_1_2_3 (broadcastInDim S65536x8x1x16 ![0, 1, 3] bcast_S65536x8x16_S65536x8x1x16_0_1_3 b)))
    shapeCasts_S65536x8x16x16_S65536x8x256

/-- Every pair's number: 128 times the first place, plus the second. -/
def pairIds (a b : IVec S65536x8x16 32) : IVec S65536x8x256 32 :=
  shapeCast S65536x8x256 (addi
    (broadcastInDim S65536x8x16x16 ![0, 1, 2, 3] bcast_S65536x8x16x1_S65536x8x16x16_0_1_2_3
      (muli (broadcastInDim S65536x8x16x1 ![0, 1, 2] bcast_S65536x8x16_S65536x8x16x1_0_1_2 a) (broadcastInDim S65536x8x16x1 ![] bcast_S_S65536x8x16x1 (constantI S_ 32 128#32))))
    (broadcastInDim S65536x8x16x16 ![0, 1, 2, 3] bcast_S65536x8x1x16_S65536x8x16x16_0_1_2_3 (broadcastInDim S65536x8x1x16 ![0, 1, 3] bcast_S65536x8x16_S65536x8x1x16_0_1_3 b)))
    shapeCasts_S65536x8x16x16_S65536x8x256

/-- A place counted from the end when it is negative. -/
def wrapped (i : IVec S65536x8x16 32) : IVec S65536x8x16x1 32 :=
  shapeCast S65536x8x16x1 (select (cmpi .slt i (broadcastInDim S65536x8x16 ![] bcast_S_S65536x8x16 (constantI S_ 32 0#32)))
    (addi i (broadcastInDim S65536x8x16 ![] bcast_S_S65536x8x16 (constantI S_ 32 256#32))) i) shapeCasts_S65536x8x16_S65536x8x16x1

/-- Whether a place is one of the 256. -/
def inRange (w : IVec S65536x8x16x1 32) : IVec S65536x8x16 1 :=
  Host.reduce IntOp.andi (andi (cmpi .sge w (broadcastInDim S65536x8x16x1 ![] bcast_S_S65536x8x16x1 (constantI S_ 32 0#32)))
    (cmpi .sle w (broadcastInDim S65536x8x16x1 ![0, 1, 2, 3] bcast_S1x1x1x1_S65536x8x16x1_0_1_2_3 (broadcastInDim S1x1x1x1 ![3] bcast_S1_S1x1x1x1_3 (constantI S1 32 255#32)))))
    (constantI S_ 1 1#1) reducesTo_S65536x8x16x1_S65536x8x16_d3 h_S_

/-- The entries of `x` at the places `i`. -/
def taken (x : IVec S65536x8x256 32) (i : IVec S65536x8x16 32) : IVec S65536x8x16 32 :=
  select (inRange (wrapped i)) (Host.gather gather_S65536x8x256_S65536x8x16x1_S65536x8x16_n_2_01_01_2_3_111 x (wrapped i))
    (broadcastInDim S65536x8x16 ![] bcast_S_S65536x8x16 (constantI S_ 32 2147483648#32))

/-- The exponentials of sixteen scores less the greatest of them. -/
def expBelow (v : FVec F S65536x8x16 .f32) : FVec F S65536x8x16 .f32 :=
  Host.exp (subf v (broadcastInDim S65536x8x16 ![0, 1, 2] bcast_S65536x8x1_S65536x8x16_0_1_2 (broadcastInDim S65536x8x1 ![0, 1] bcast_S65536x8_S65536x8x1_0_1
    (maximumf (broadcastInDim S65536x8 ![] bcast_S_S65536x8 (constant S_ .f32 0xFF800000#32))
      (Host.reduce FloatOps.maximumf v (constant S_ .f32 0xFF800000#32) reducesTo_S65536x8x16_S65536x8_d2 h_S_)))))

/-- Their softmax. -/
def gatesOf (v : FVec F S65536x8x16 .f32) : FVec F S65536x8x16 .f32 :=
  Host.divf (expBelow v) (broadcastInDim S65536x8x16 ![0, 1, 2] bcast_S65536x8x1_S65536x8x16_0_1_2 (broadcastInDim S65536x8x1 ![0, 1] bcast_S65536x8_S65536x8x1_0_1
    (Host.reduceAdd (expBelow v) (constant S_ .f32 0x00000000#32) reducesTo_S65536x8x16_S65536x8_d2 h_S_)))

/-- The sums of the pairs of the two halves' best scores. -/
def refSums (s : FVec F S65536x8x2x128 .f32) : FVec F S65536x8x256 .f32 := pairSums (bestOf128 (firstHalf s)) (bestOf128 (secondHalf s))

/-- The pairs' numbers. -/
def refIds (s : FVec F S65536x8x2x128 .f32) : IVec S65536x8x256 32 := pairIds (placesOf128 (firstHalf s)) (placesOf128 (secondHalf s))

/-- The first result: the first row of each chosen expert. -/
def refRows (s : FVec F S65536x8x2x128 .f32) : IVec S65536x128 32 :=
  shapeCast S65536x128 (muli (taken (refIds s) (placesOf256 (refSums s))) (broadcastInDim S65536x8x16 ![] bcast_S_S65536x8x16 (constantI S_ 32 4#32))) shapeCasts_S65536x8x16_S65536x128

/-- The second result: the gates. -/
def refGates (s : FVec F S65536x8x2x128 .f32) : FVec F S65536x128 .f32 :=
  shapeCast S65536x128 (gatesOf (bestOf256 (refSums s))) shapeCasts_S65536x8x16_S65536x128

set_option maxRecDepth 200000 in
set_option maxHeartbeats 8000000 in
/-- The reference's run: its two results are the stages composed, and its arguments stay. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v36) = refRows (refScores (m ((c : Thread nD τ).loc main_arg0)) (m ((c : Thread nD τ).loc main_arg1)) (m ((c : Thread nD τ).loc main_arg2)))
      ∧ r.2.mem ((c : Thread nD τ).loc main_v37) = refGates (refScores (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine θ_run_mono (StableHlo.run_hlo _ _ (by intro d; unfold main fn_take_along_axis.body; simp only [bind_assoc, pure_bind]; hlo_seq) (by decide) (by decide) (by simp)
      (by intro _ h; (repeat (cases h with | head => rfl | tail _ h => ?_)); exact nomatch h) _ _) fun r h c => ?_
  refine ⟨(h c main_v36).trans ?_, (h c main_v37).trans ?_, (h c main_arg0).trans ?_, (h c main_arg1).trans ?_, (h c main_arg2).trans ?_⟩
  · after_results_simp
    simp -implicitDefEqProofs only [StableHlo.TRef.toBuf, StableHlo.TRef.ofBuf, cast_cast, cast_eq]
    simp only [refRows, refGates, refIds, refSums, taken, inRange, wrapped, pairSums, pairIds, bestOf128, placesOf128, bestOf256, placesOf256, firstHalf, secondHalf, gatesOf, expBelow, refScores, refQueries]
    rfl
  · after_results_simp
    simp only [refRows, refGates, refIds, refSums, taken, inRange, wrapped, pairSums, pairIds, bestOf128, placesOf128, bestOf256, placesOf256, firstHalf, secondHalf, gatesOf, expBelow, refScores, refQueries]
    rfl
  · after_results_simp
  · after_results_simp
  · after_results_simp

end Cert.Proof.TopK

end
-- ==== Proof.TopKRounds.lean ====
/- The selection's kernel in words of its own: the stages of its body, and what it stores as these stages composed. -/
module

public import proofs.«01_k».proof.Proof.Gen.TopKIdeal.Frame

@[expose] public section

noncomputable section

namespace Cert.TopKIdeal

open Idealize.ShloMosaic Idealize.SL.Sem
open Cert.TopKIdeal.Gen

variable {F : FTy → Type} [FloatOps F]

/-- A block of `N` rows by 512 columns. -/
abbrev rowsBy (N : Nat) : Shape := ⟨2, ![N, 512]⟩

/-- What the selection needs of the shape of a block of rows by 512 columns. -/
structure Columns (N : Nat) : Prop where
  reduces : (rowsBy N).Reduces [0] S512
  broadcasts : S1x512.Broadcasts (rowsBy N)
  iota : (rowsBy N).Iotas .tc 32 [0]

/-- Blocks of 128 rows have that shape. -/
theorem columns128 : Columns 128 := ⟨reduces_S128x512_S512, broadcasts_S1x512_S128x512, iota_S128x512_d0_w32⟩
/-- So have blocks of 56 rows. -/
theorem columns56 : Columns 56 := ⟨reduces_S56x512_S512, broadcasts_S1x512_S56x512, iota_S56x512_d0_w32⟩

section
variable {N : Nat}

/-- The row numbers. -/
def rowNumbers (hS : Columns N) : FVec F (rowsBy N) .f32 := sitofp .f32 (iota .tc (rowsBy N) 32 [0] hS.iota)

/-- The greatest entry of each column. -/
def colMax (hS : Columns N) (s : FVec F (rowsBy N) .f32) : FVec F S1x512 .f32 :=
  shapeCast S1x512 (multiReduction .maximumf [0] S512 s 0xFF800000#32 hS.reduces (.inl rfl) rfl) shapeCasts_S512_S1x512

/-- The first row of each column that holds its greatest entry; `n` is the word of the number of rows. -/
def colArg (hS : Columns N) (n : BitVec 32) (s : FVec F (rowsBy N) .f32) : FVec F S1x512 .f32 :=
  shapeCast S1x512 (multiReduction .minimumf [0] S512
    (select (cmpf .oeq s (broadcastTo (rowsBy N) (colMax hS s) hS.broadcasts)) (rowNumbers hS) (broadcast (rowsBy N) (Scalar.ofBits .f32 n)))
    0x7F800000#32 hS.reduces (.inl rfl) rfl) shapeCasts_S512_S1x512

/-- The block with that entry struck out of each column. -/
def strike (hS : Columns N) (n : BitVec 32) (s : FVec F (rowsBy N) .f32) : FVec F (rowsBy N) .f32 :=
  select (cmpf .oeq (rowNumbers hS) (broadcastTo (rowsBy N) (colArg hS n s) hS.broadcasts)) (broadcast (rowsBy N) (Scalar.ofBits .f32 0xFF800000#32)) s

/-- The block after `r` rounds. -/
def struck (hS : Columns N) (n : BitVec 32) (s : FVec F (rowsBy N) .f32) : Nat → FVec F (rowsBy N) .f32
  | 0 => s
  | r + 1 => strike hS n (struck hS n s r)

/-- Sixteen rows laid one below the other. -/
def stack (v : Nat → FVec F S1x512 .f32) : FVec F S16x512 .f32 :=
  concatenate S16x512 0 [⟨S1x512, v 0⟩, ⟨S1x512, v 1⟩, ⟨S1x512, v 2⟩, ⟨S1x512, v 3⟩, ⟨S1x512, v 4⟩, ⟨S1x512, v 5⟩, ⟨S1x512, v 6⟩, ⟨S1x512, v 7⟩, ⟨S1x512, v 8⟩, ⟨S1x512, v 9⟩, ⟨S1x512, v 10⟩, ⟨S1x512, v 11⟩, ⟨S1x512, v 12⟩, ⟨S1x512, v 13⟩, ⟨S1x512, v 14⟩, ⟨S1x512, v 15⟩]
    concatenates_S1x512_S1x512_S1x512_S1x512_S1x512_S1x512_S1x512_S1x512_S1x512_S1x512_S1x512_S1x512_S1x512_S1x512_S1x512_S1x512_S16x512_d0

/-- The sixteen greatest entries of each column, in order. -/
def topValues (hS : Columns N) (n : BitVec 32) (s : FVec F (rowsBy N) .f32) : FVec F S16x512 .f32 := stack fun r => colMax hS (struck hS n s r)

/-- The rows that hold them. -/
def topRows (hS : Columns N) (n : BitVec 32) (s : FVec F (rowsBy N) .f32) : FVec F S16x512 .f32 := stack fun r => colArg hS n (struck hS n s r)

end

/-- A half's scores of every key for every token. -/
def keyScores (k : Vec F S1x128x128 .bf16) (q : FVec F S128x512 .bf16) : FVec F S128x512 .f32 :=
  matmul dot_S128x128_S128x512_S128x512_1_0_0_1_n_n none (shapeCast S128x128 k shapeCasts_S1x128x128_S128x128) q
    (constant S128x512 .f32 0x00000000#32)

/-- The rows of `a` that a matrix of zeros and ones picks. -/
def pickRows (sel : Vec F S56x16 .f32) (a : FVec F S16x512 .f32) : FVec F S56x512 .f32 :=
  matmul dot_S56x16_S16x512_S56x512_1_0_0_1_n_n (some .fp32) sel a (constant S56x512 .f32 0x00000000#32)

/-- The scores of the candidate pairs. -/
def pairScores (sel1 sel2 : Vec F S56x16 .f32) (pad : Vec F S56x1 .f32) (s1 s2 : FVec F S128x512 .f32) : FVec F S56x512 .f32 :=
  addf (addf (pickRows sel1 (topValues columns128 0x43000000#32 s1)) (pickRows sel2 (topValues columns128 0x43000000#32 s2)))
    (broadcastTo S56x512 pad broadcasts_S56x1_S56x512)

/-- The numbers of the candidate pairs. -/
def pairNumbers (sel1 sel2 : Vec F S56x16 .f32) (s1 s2 : FVec F S128x512 .f32) : FVec F S56x512 .f32 :=
  addf (mulf (pickRows sel1 (topRows columns128 0x43000000#32 s1)) (broadcast S56x512 (Scalar.ofBits .f32 0x43000000#32)))
    (pickRows sel2 (topRows columns128 0x43000000#32 s2))

/-- The entry of `v` in each column at the row that `p` names. -/
def entryAt (v : FVec F S56x512 .f32) (p : FVec F S1x512 .f32) : FVec F S1x512 .f32 :=
  shapeCast S1x512 (multiReduction .add [0] S512
    (select (cmpf .oeq (rowNumbers columns56) (broadcastTo S56x512 p broadcasts_S1x512_S56x512)) v (broadcast S56x512 (Scalar.ofBits .f32 0x00000000#32)))
    0x00000000#32 reduces_S56x512_S512 (.inl rfl) rfl) shapeCasts_S512_S1x512

/-- The numbers of the sixteen best pairs. -/
def headNumbers (sel1 sel2 : Vec F S56x16 .f32) (pad : Vec F S56x1 .f32) (s1 s2 : FVec F S128x512 .f32) : FVec F S16x512 .f32 :=
  concatenate S16x512 0 [⟨S1x512, entryAt (pairNumbers sel1 sel2 s1 s2) (extractStridedSlice S1x512 ![0, 0] (topRows columns56 0x42600000#32 (pairScores sel1 sel2 pad s1 s2)) slices_S16x512_o0_0_S1x512)⟩,
    ⟨S1x512, entryAt (pairNumbers sel1 sel2 s1 s2) (extractStridedSlice S1x512 ![1, 0] (topRows columns56 0x42600000#32 (pairScores sel1 sel2 pad s1 s2)) slices_S16x512_o1_0_S1x512)⟩,
    ⟨S1x512, entryAt (pairNumbers sel1 sel2 s1 s2) (extractStridedSlice S1x512 ![2, 0] (topRows columns56 0x42600000#32 (pairScores sel1 sel2 pad s1 s2)) slices_S16x512_o2_0_S1x512)⟩,
    ⟨S1x512, entryAt (pairNumbers sel1 sel2 s1 s2) (extractStridedSlice S1x512 ![3, 0] (topRows columns56 0x42600000#32 (pairScores sel1 sel2 pad s1 s2)) slices_S16x512_o3_0_S1x512)⟩,
    ⟨S1x512, entryAt (pairNumbers sel1 sel2 s1 s2) (extractStridedSlice S1x512 ![4, 0] (topRows columns56 0x42600000#32 (pairScores sel1 sel2 pad s1 s2)) slices_S16x512_o4_0_S1x512)⟩,
    ⟨S1x512, entryAt (pairNumbers sel1 sel2 s1 s2) (extractStridedSlice S1x512 ![5, 0] (topRows columns56 0x42600000#32 (pairScores sel1 sel2 pad s1 s2)) slices_S16x512_o5_0_S1x512)⟩,
    ⟨S1x512, entryAt (pairNumbers sel1 sel2 s1 s2) (extractStridedSlice S1x512 ![6, 0] (topRows columns56 0x42600000#32 (pairScores sel1 sel2 pad s1 s2)) slices_S16x512_o6_0_S1x512)⟩,
    ⟨S1x512, entryAt (pairNumbers sel1 sel2 s1 s2) (extractStridedSlice S1x512 ![7, 0] (topRows columns56 0x42600000#32 (pairScores sel1 sel2 pad s1 s2)) slices_S16x512_o7_0_S1x512)⟩,
    ⟨S1x512, entryAt (pairNumbers sel1 sel2 s1 s2) (extractStridedSlice S1x512 ![8, 0] (topRows columns56 0x42600000#32 (pairScores sel1 sel2 pad s1 s2)) slices_S16x512_o8_0_S1x512)⟩,
    ⟨S1x512, entryAt (pairNumbers sel1 sel2 s1 s2) (extractStridedSlice S1x512 ![9, 0] (topRows columns56 0x42600000#32 (pairScores sel1 sel2 pad s1 s2)) slices_S16x512_o9_0_S1x512)⟩,
    ⟨S1x512, entryAt (pairNumbers sel1 sel2 s1 s2) (extractStridedSlice S1x512 ![10, 0] (topRows columns56 0x42600000#32 (pairScores sel1 sel2 pad s1 s2)) slices_S16x512_o10_0_S1x512)⟩,
    ⟨S1x512, entryAt (pairNumbers sel1 sel2 s1 s2) (extractStridedSlice S1x512 ![11, 0] (topRows columns56 0x42600000#32 (pairScores sel1 sel2 pad s1 s2)) slices_S16x512_o11_0_S1x512)⟩,
    ⟨S1x512, entryAt (pairNumbers sel1 sel2 s1 s2) (extractStridedSlice S1x512 ![12, 0] (topRows columns56 0x42600000#32 (pairScores sel1 sel2 pad s1 s2)) slices_S16x512_o12_0_S1x512)⟩,
    ⟨S1x512, entryAt (pairNumbers sel1 sel2 s1 s2) (extractStridedSlice S1x512 ![13, 0] (topRows columns56 0x42600000#32 (pairScores sel1 sel2 pad s1 s2)) slices_S16x512_o13_0_S1x512)⟩,
    ⟨S1x512, entryAt (pairNumbers sel1 sel2 s1 s2) (extractStridedSlice S1x512 ![14, 0] (topRows columns56 0x42600000#32 (pairScores sel1 sel2 pad s1 s2)) slices_S16x512_o14_0_S1x512)⟩,
    ⟨S1x512, entryAt (pairNumbers sel1 sel2 s1 s2) (extractStridedSlice S1x512 ![15, 0] (topRows columns56 0x42600000#32 (pairScores sel1 sel2 pad s1 s2)) slices_S16x512_o15_0_S1x512)⟩]
    concatenates_S1x512_S1x512_S1x512_S1x512_S1x512_S1x512_S1x512_S1x512_S1x512_S1x512_S1x512_S1x512_S1x512_S1x512_S1x512_S1x512_S16x512_d0

/-- The exponentials of the sixteen rows of `v` less the greatest of them. -/
def expLess (v : FVec F S16x512 .f32) : FVec F S16x512 .f32 :=
  exp (subf v (broadcastTo S16x512 (shapeCast S1x512 (multiReduction .maximumf [0] S512 v 0xFF800000#32 reduces_S16x512_S512 (.inl rfl) rfl)
    shapeCasts_S512_S1x512) broadcasts_S1x512_S16x512))

/-- The softmax over the sixteen rows of `v`. -/
def softRows (v : FVec F S16x512 .f32) : FVec F S16x512 .f32 :=
  divf (expLess v) (broadcastTo S16x512 (shapeCast S1x512 (multiReduction .add [0] S512 (expLess v) 0x00000000#32 reduces_S16x512_S512 (.inl rfl) rfl)
    shapeCasts_S512_S1x512) broadcasts_S1x512_S16x512)

/-- The gates of a head. -/
def headGates (sel1 sel2 : Vec F S56x16 .f32) (pad : Vec F S56x1 .f32) (s1 s2 : FVec F S128x512 .f32) : FVec F S16x512 .f32 :=
  softRows (topValues columns56 0x42600000#32 (pairScores sel1 sel2 pad s1 s2))

/-- The queries, one column a token. -/
def queries (x0 : Vec F S512x1024 .f32) (x1 : Vec F S2048x1024 .bf16) : FVec F S2048x512 .bf16 :=
  truncf .bf16 (matmul dot_S2048x1024_S512x1024_S2048x512_1_1_0_0_n_n none (shapeCast S2048x1024 x1 shapeCasts_S2048x1024_S2048x1024)
    (truncf .bf16 x0 bitsLt_bf16_f32) (constant S2048x512 .f32 0x00000000#32)) bitsLt_bf16_f32

/-- Eight heads' rows laid one below the other, one row a token then. -/
def heads (f : FVec F S128x512 .f32 → FVec F S128x512 .f32 → FVec F S16x512 .f32) (q : FVec F S2048x512 .bf16) (x2 : Vec F S16x128x128 .bf16) :
    FVec F S512x128 .f32 :=
  transpose S512x128 [1, 0] (concatenate S128x512 0 [⟨S16x512, f (keyScores (View.ld x2 r0_3) (extractStridedSlice S128x512 ![0, 0] q slices_S2048x512_o0_0_S128x512)) (keyScores (View.ld x2 r0_4) (extractStridedSlice S128x512 ![128, 0] q slices_S2048x512_o128_0_S128x512))⟩,
    ⟨S16x512, f (keyScores (View.ld x2 r0_6) (extractStridedSlice S128x512 ![256, 0] q slices_S2048x512_o256_0_S128x512)) (keyScores (View.ld x2 r0_7) (extractStridedSlice S128x512 ![384, 0] q slices_S2048x512_o384_0_S128x512))⟩,
    ⟨S16x512, f (keyScores (View.ld x2 r0_8) (extractStridedSlice S128x512 ![512, 0] q slices_S2048x512_o512_0_S128x512)) (keyScores (View.ld x2 r0_9) (extractStridedSlice S128x512 ![640, 0] q slices_S2048x512_o640_0_S128x512))⟩,
    ⟨S16x512, f (keyScores (View.ld x2 r0_10) (extractStridedSlice S128x512 ![768, 0] q slices_S2048x512_o768_0_S128x512)) (keyScores (View.ld x2 r0_11) (extractStridedSlice S128x512 ![896, 0] q slices_S2048x512_o896_0_S128x512))⟩,
    ⟨S16x512, f (keyScores (View.ld x2 r0_12) (extractStridedSlice S128x512 ![1024, 0] q slices_S2048x512_o1024_0_S128x512)) (keyScores (View.ld x2 r0_13) (extractStridedSlice S128x512 ![1152, 0] q slices_S2048x512_o1152_0_S128x512))⟩,
    ⟨S16x512, f (keyScores (View.ld x2 r0_14) (extractStridedSlice S128x512 ![1280, 0] q slices_S2048x512_o1280_0_S128x512)) (keyScores (View.ld x2 r0_15) (extractStridedSlice S128x512 ![1408, 0] q slices_S2048x512_o1408_0_S128x512))⟩,
    ⟨S16x512, f (keyScores (View.ld x2 r0_16) (extractStridedSlice S128x512 ![1536, 0] q slices_S2048x512_o1536_0_S128x512)) (keyScores (View.ld x2 r0_17) (extractStridedSlice S128x512 ![1664, 0] q slices_S2048x512_o1664_0_S128x512))⟩,
    ⟨S16x512, f (keyScores (View.ld x2 r0_18) (extractStridedSlice S128x512 ![1792, 0] q slices_S2048x512_o1792_0_S128x512)) (keyScores (View.ld x2 r0_19) (extractStridedSlice S128x512 ![1920, 0] q slices_S2048x512_o1920_0_S128x512))⟩]
    concatenates_S16x512_S16x512_S16x512_S16x512_S16x512_S16x512_S16x512_S16x512_S128x512_d0) transposes_S128x512_p1_0_S512x128

/-- A pair's number as the first row of its expert. -/
def asRows (v : FVec F S512x128 .f32) : IVec S512x128 32 :=
  muli (minsi (broadcast S512x128 16383#32) (maxsi (broadcast S512x128 0#32) (fptosi 32 v))) (broadcast S512x128 4#32)

set_option maxRecDepth 65536 in
/-- What the body stores in the gates' block: the softmax of each head's sixteen best pairs. -/
theorem out_gates (x0 : Vec F S512x1024 .f32) (x1 : Vec F S2048x1024 .bf16) (x2 : Vec F S16x128x128 .bf16) (x3 x4 : Vec F S56x16 .f32)
    (x5 : Vec F S56x1 .f32) :
    out0_7 x0 x1 x2 x3 x4 x5 = View.canon [⟨r0_20, heads (headGates (View.ld x3 r0_1) (View.ld x4 r0_1) (View.ld x5 r0_5))
      (queries (View.ld x0 r0_0) (View.ld x1 r0_2)) x2⟩] := by
  chain_rfl

set_option maxRecDepth 65536 in
/-- What the body stores in the rows' block: four times the numbers of these pairs' experts. -/
theorem out_rows (x0 : Vec F S512x1024 .f32) (x1 : Vec F S2048x1024 .bf16) (x2 : Vec F S16x128x128 .bf16) (x3 x4 : Vec F S56x16 .f32)
    (x5 : Vec F S56x1 .f32) :
    out0_6 x0 x1 x2 x3 x4 x5 = View.canon [⟨r0_20, asRows (heads (headNumbers (View.ld x3 r0_1) (View.ld x4 r0_1) (View.ld x5 r0_5))
      (queries (View.ld x0 r0_0) (View.ld x1 r0_2)) x2)⟩] := by
  chain_rfl

end Cert.TopKIdeal

end
-- ==== Proof.TopKOrder.lean ====
/- Ranking the entries of a column, the greatest first and equal ones by position; and the fifty pairs of two sorted columns of
   sixteen that can be among the sixteen greatest sums. -/
module

public import Idealize.ShloMosaic.Lib.SortFacts
public import Mathlib.Data.EReal.Operations

@[expose] public section

noncomputable section

namespace Cert.Ranking

open Idealize.ShloMosaic

/-! ## Places in a column, the greatest entry first -/

variable {n : Nat}

/-- Position `p` goes before `q`: its entry is greater, or it is the earlier of two with the same entry. -/
def Before (f : Fin n → EReal) (p q : Fin n) : Prop := f q < f p ∨ (f p = f q ∧ p < q)

/-- Going before is transitive, -/
theorem Before.trans {f : Fin n → EReal} {p q r : Fin n} (h₁ : Before f p q) (h₂ : Before f q r) : Before f p r := by
  rcases h₁ with h₁ | ⟨h₁, h₁'⟩ <;> rcases h₂ with h₂ | ⟨h₂, h₂'⟩
  · exact Or.inl (h₂.trans h₁)
  · exact Or.inl (h₂ ▸ h₁)
  · exact Or.inl (h₁ ▸ h₂)
  · exact Or.inr ⟨h₁.trans h₂, h₁'.trans h₂'⟩

/-- irreflexive, -/
theorem Before.irrefl {f : Fin n → EReal} {p : Fin n} (h : Before f p p) : False := by
  rcases h with h | ⟨-, h⟩
  · exact lt_irrefl _ h
  · exact lt_irrefl _ h

/-- and total. -/
theorem before_or (f : Fin n → EReal) (p q : Fin n) : Before f p q ∨ p = q ∨ Before f q p := by
  rcases lt_trichotomy (f p) (f q) with h | h | h
  · exact Or.inr (Or.inr (Or.inl h))
  · rcases lt_trichotomy p q with h' | h' | h'
    · exact Or.inl (Or.inr ⟨h, h'⟩)
    · exact Or.inr (Or.inl h')
    · exact Or.inr (Or.inr (Or.inr ⟨h.symm, h'⟩))
  · exact Or.inl (Or.inl h)

open Classical in
/-- The positions that go before `p`. -/
def ahead (f : Fin n → EReal) (p : Fin n) : Finset (Fin n) := Finset.univ.filter fun q => Before f q p

/-- The positions ahead of `p` are those that go before it. -/
theorem mem_ahead {f : Fin n → EReal} {p q : Fin n} : q ∈ ahead f p ↔ Before f q p := by
  unfold ahead
  simp

/-- How many positions go before `p`. -/
def place (f : Fin n → EReal) (p : Fin n) : Nat := (ahead f p).card

/-- The earlier of two positions has the smaller place, -/
theorem place_lt {f : Fin n → EReal} {p q : Fin n} (h : Before f p q) : place f p < place f q := by
  refine Finset.card_lt_card (Finset.ssubset_iff_subset_ne.mpr ⟨fun r hr => mem_ahead.mpr ((mem_ahead.mp hr).trans h), fun e => ?_⟩)
  have hp : p ∈ ahead f q := mem_ahead.mpr h
  rw [← e] at hp
  exact (mem_ahead.mp hp).irrefl

/-- and conversely. -/
theorem before_of_place {f : Fin n → EReal} {p q : Fin n} (h : place f p < place f q) : Before f p q := by
  rcases before_or f p q with h' | h' | h'
  · exact h'
  · exact absurd (h' ▸ h) (lt_irrefl _)
  · exact absurd (h.trans (place_lt h')) (lt_irrefl _)

/-- No two positions have one place. -/
theorem place_injective (f : Fin n → EReal) : Function.Injective (place f) := fun p q h => by
  rcases before_or f p q with h' | h' | h'
  · exact absurd (h ▸ place_lt h') (lt_irrefl _)
  · exact h'
  · exact absurd (h ▸ place_lt h') (lt_irrefl _)

/-- Places are below the number of positions, -/
theorem place_bound (f : Fin n → EReal) (p : Fin n) : place f p < n := by
  have h : (ahead f p).card < (Finset.univ : Finset (Fin n)).card :=
    Finset.card_lt_card (Finset.ssubset_iff_subset_ne.mpr ⟨Finset.subset_univ _, fun e => (mem_ahead.mp (e ▸ Finset.mem_univ p)).irrefl⟩)
  rw [Finset.card_univ, Fintype.card_fin] at h
  exact h

/-- and each such number is the place of a position. -/
theorem place_surjective (f : Fin n → EReal) (r : Fin n) : ∃ p, place f p = r.val := by
  have hi : Function.Injective fun p => (⟨place f p, place_bound f p⟩ : Fin n) := fun p q h => place_injective f (congrArg Fin.val h)
  obtain ⟨p, hp⟩ := (Finite.injective_iff_surjective.mp hi) r
  exact ⟨p, congrArg Fin.val hp⟩

/-- The position at place `r`. -/
def nth (f : Fin n → EReal) (r : Fin n) : Fin n := (place_surjective f r).choose

/-- The position at place `r` has place `r`, -/
theorem place_nth (f : Fin n → EReal) (r : Fin n) : place f (nth f r) = r.val := (place_surjective f r).choose_spec

/-- and is the only one. -/
theorem nth_eq {f : Fin n → EReal} {r : Fin n} {p : Fin n} (h : place f p = r.val) : nth f r = p :=
  place_injective f ((place_nth f r).trans h.symm)

/-- The entries fall as the place grows. -/
theorem nth_antitone (f : Fin n → EReal) {r s : Fin n} (h : r ≤ s) : f (nth f s) ≤ f (nth f r) := by
  rcases eq_or_lt_of_le h with rfl | h
  · exact le_rfl
  · rcases before_of_place (f := f) (p := nth f r) (q := nth f s) (by rw [place_nth, place_nth]; exact h) with h' | ⟨h', -⟩
    · exact h'.le
    · exact h'.ge

/-- Where more than `r` positions hold an entry, so does the one at place `r`. -/
theorem nth_ne_bot (f : Fin n → EReal) (r : Fin n) (T : Finset (Fin n)) (hT : ∀ p ∈ T, f p ≠ ⊥) (hr : r.val < T.card) : f (nth f r) ≠ ⊥ := by
  intro h
  have hs : T ⊆ ahead f (nth f r) := fun p hp => mem_ahead.mpr (Or.inl (by rw [h]; exact bot_lt_iff_ne_bot.mpr (hT p hp)))
  have := Finset.card_le_card hs
  have h' : (ahead f (nth f r)).card = r.val := place_nth f r
  omega

/-! ## The sorted list of positions -/

/-- Inserting an earlier position keeps a list in order. -/
theorem pairwise_insert (f : Fin n → EReal) (a : Fin n) (l : List (Fin n)) (ha : ∀ b ∈ l, a < b) (hl : l.Pairwise (Before f)) :
    (insertBefore (fun x y => decide (f y < f x)) a l).Pairwise (Before f) := by
  induction l with
  | nil => exact List.pairwise_singleton _ _
  | cons b l ih =>
    obtain ⟨hb, hl'⟩ := List.pairwise_cons.mp hl
    unfold insertBefore
    by_cases h : f a < f b
    · rw [if_pos (decide_eq_true h)]
      refine List.pairwise_cons.mpr ⟨fun x hx => ?_, ih (fun x hx => ha x (List.mem_cons_of_mem _ hx)) hl'⟩
      rcases List.mem_cons.mp ((perm_insertBefore _ a l).mem_iff.mp hx) with rfl | hx
      · exact Or.inl h
      · exact hb x hx
    · rw [if_neg (by simpa using h)]
      have hab : Before f a b := by
        rcases lt_or_eq_of_le (not_lt.mp h) with h' | h'
        · exact Or.inl h'
        · exact Or.inr ⟨h'.symm, ha b List.mem_cons_self⟩
      refine List.pairwise_cons.mpr ⟨fun x hx => ?_, hl⟩
      rcases List.mem_cons.mp hx with rfl | hx
      · exact hab
      · exact hab.trans (hb x hx)

/-- The sorted list is in order. -/
theorem pairwise_sort (f : Fin n → EReal) (l : List (Fin n)) (hl : l.Pairwise (· < ·)) :
    (stableSort (fun x y => decide (f y < f x)) l).Pairwise (Before f) := by
  induction l with
  | nil => exact List.Pairwise.nil
  | cons a l ih =>
    obtain ⟨ha, hl'⟩ := List.pairwise_cons.mp hl
    exact pairwise_insert f a _ (fun b hb => ha b ((perm_stableSort _ l).mem_iff.mp hb)) (ih hl')

/-- The stable sort lists the positions by their place. -/
theorem sort_eq (f : Fin n → EReal) : stableSort (fun x y => decide (f y < f x)) (List.finRange n) = (List.finRange n).map (nth f) := by
  have : Std.Antisymm (Before f) := ⟨fun _ _ h₁ h₂ => ((h₁.trans h₂).irrefl).elim⟩
  have hinj : Function.Injective (nth f) := fun r s h => Fin.ext (by rw [← place_nth f r, ← place_nth f s, h])
  refine List.Perm.eq_of_pairwise' (r := Before f) (pairwise_sort f _ (List.pairwise_lt_finRange n)) ?_ ?_
  · rw [List.pairwise_map]
    exact (List.pairwise_lt_finRange n).imp fun {r s} h => before_of_place (by rw [place_nth, place_nth]; exact h)
  · refine (perm_stableSort _ _).trans ?_
    refine (List.perm_ext_iff_of_nodup (List.nodup_finRange n) ((List.nodup_finRange n).map hinj)).mpr fun p => ?_
    simp only [List.mem_finRange, true_iff, List.mem_map, true_and]
    obtain ⟨r, hr⟩ := (Finite.injective_iff_surjective.mp hinj) p
    exact ⟨r, hr⟩

/-! ## Striking the greatest entry out, round by round -/

/-- The column once the first `r` places are struck out. -/
def left (f : Fin n → EReal) (r : Nat) (p : Fin n) : EReal := if place f p < r then ⊥ else f p

/-- Before the first round every entry is left. -/
theorem left_zero (f : Fin n → EReal) : left f 0 = f := by
  funext p
  exact if_neg (Nat.not_lt_zero _)

/-- After `r` rounds the entry at place `r` is left, -/
theorem left_nth (f : Fin n → EReal) (r : Fin n) : left f r.val (nth f r) = f (nth f r) := if_neg (by rw [place_nth]; exact lt_irrefl _)

/-- and none that is left exceeds it. -/
theorem left_le (f : Fin n → EReal) (r : Fin n) (q : Fin n) : left f r.val q ≤ f (nth f r) := by
  unfold left
  split
  · exact bot_le
  · next h =>
    by_contra hlt
    have h' := place_lt (f := f) (p := q) (q := nth f r) (Or.inl (not_le.mp hlt))
    rw [place_nth] at h'
    exact h h'

/-- The greatest entry left is the one at place `r`. -/
theorem sup_left (f : Fin n → EReal) (r : Fin n) : Finset.univ.sup (left f r.val) = f (nth f r) :=
  le_antisymm (Finset.sup_le fun q _ => left_le f r q) ((left_nth f r).symm.trans_le (Finset.le_sup (f := left f r.val) (Finset.mem_univ _)))

/-- It is the first that holds it. -/
theorem nth_le_of_left (f : Fin n → EReal) (r : Fin n) (hr : f (nth f r) ≠ ⊥) (q : Fin n) (h : left f r.val q = f (nth f r)) : nth f r ≤ q := by
  unfold left at h
  split at h
  · exact absurd h.symm hr
  · next hq =>
    by_contra hlt
    have h' := place_lt (f := f) (p := q) (q := nth f r) (Or.inr ⟨h, not_le.mp hlt⟩)
    rw [place_nth] at h'
    exact hq h'

/-- A further round strikes out that entry. -/
theorem left_succ (f : Fin n → EReal) (r : Fin n) (q : Fin n) : left f (r.val + 1) q = if q = nth f r then ⊥ else left f r.val q := by
  unfold left
  by_cases hq : q = nth f r
  · rw [if_pos hq, hq, place_nth, if_pos (Nat.lt_succ_self _)]
  · rw [if_neg hq]
    have hne : place f q ≠ r.val := fun h => hq (nth_eq h).symm
    by_cases h : place f q < r.val
    · rw [if_pos h, if_pos (by omega)]
    · rw [if_neg h, if_neg (by omega)]

/-! ## The pairs that can be among the sixteen best -/

/-- The pairs `(a, b)` with `(a + 1) (b + 1) ≤ 16`, in order. -/
def pairs : List (Nat × Nat) := (List.range 16).flatMap fun a => ((List.range 16).filter fun b => (a + 1) * (b + 1) ≤ 16).map fun b => (a, b)

/-- The first member of pair `k`. -/
def fst (k : Fin 56) : Fin 16 := Fin.ofNat 16 (pairs.getD k.val (0, 0)).1
/-- And its second member. -/
def snd (k : Fin 56) : Fin 16 := Fin.ofNat 16 (pairs.getD k.val (0, 0)).2

/-- The pair's position among all `16 × 16`. -/
def flat (k : Fin 56) : Fin 256 := ⟨16 * (fst k).val + (snd k).val, by omega⟩

/-- The fifty pairs stand in the order of all pairs, -/
theorem flat_lt : ∀ k l : Fin 56, k.val < 50 → l.val < 50 → k < l → flat k < flat l := by decide +kernel

/-- and every pair with few enough pairs above it is among them. -/
theorem flat_onto : ∀ a b : Fin 16, (a.val + 1) * (b.val + 1) ≤ 16 → ∃ k : Fin 56, k.val < 50 ∧ fst k = a ∧ snd k = b := by decide +kernel

/-- The first member of the pair at a position of the table of all pairs. -/
def row (P : Fin 256) : Fin 16 := ⟨P.val / 16, by omega⟩
/-- And its second member. -/
def col (P : Fin 256) : Fin 16 := ⟨P.val % 16, by omega⟩

/-- A candidate's first member is the pair's, -/
theorem row_flat (k : Fin 56) : row (flat k) = fst k := Fin.ext (by show (16 * (fst k).val + (snd k).val) / 16 = _; omega)
/-- and so is its second. -/
theorem col_flat (k : Fin 56) : col (flat k) = snd k := Fin.ext (by show (16 * (fst k).val + (snd k).val) % 16 = _; omega)

section

variable (u v : Fin 16 → EReal) (G : Fin 256 → EReal) (g : Fin 56 → EReal)
  (hu : ∀ a b, a ≤ b → u b ≤ u a) (hv : ∀ a b, a ≤ b → v b ≤ v a)
  (hG : ∀ P, G P = u (row P) + v (col P)) (hg : ∀ k, k.val < 50 → g k = u (fst k) + v (snd k)) (hpad : ∀ k, 50 ≤ k.val → g k = ⊥)
  (hne : ∀ a b, u a + v b ≠ ⊥)

include hu hv hG in
/-- A position at one of the first sixteen places is among the pairs: every pair that is at least as good in both goes before it. -/
theorem pair_of_place (P : Fin 256) (h : place G P < 16) : ((row P).val + 1) * ((col P).val + 1) ≤ 16 := by
  let box : Finset (Fin 256) := (Finset.univ.filter fun Q : Fin 256 => Q.val / 16 ≤ P.val / 16 ∧ Q.val % 16 ≤ P.val % 16)
  have hcard : ∀ P : Fin 256, (Finset.univ.filter fun Q : Fin 256 => Q.val / 16 ≤ P.val / 16 ∧ Q.val % 16 ≤ P.val % 16).card
      = ((row P).val + 1) * ((col P).val + 1) := by decide +kernel
  have hP : P ∈ box := Finset.mem_filter.mpr ⟨Finset.mem_univ _, le_rfl, le_rfl⟩
  have hsub : box.erase P ⊆ ahead G P := fun Q hQ => by
    obtain ⟨hne', hQ⟩ := Finset.mem_erase.mp hQ
    obtain ⟨-, h1, h2⟩ := Finset.mem_filter.mp hQ
    have hle : G P ≤ G Q := by
      rw [hG, hG]
      exact add_le_add (hu _ _ h1) (hv _ _ h2)
    have hlt : Q < P := by
      have : Q.val ≠ P.val := fun h => hne' (Fin.ext h)
      show Q.val < P.val
      omega
    rcases lt_or_eq_of_le hle with h' | h'
    · exact mem_ahead.mpr (Or.inl h')
    · exact mem_ahead.mpr (Or.inr ⟨h'.symm, hlt⟩)
  have h1 := Finset.card_le_card hsub
  rw [Finset.card_erase_of_mem hP, hcard P] at h1
  have h2 : (ahead G P).card < 16 := h
  omega

include hG hg in
/-- A candidate has the sum of its pair. -/
theorem value_flat (k : Fin 56) (hk : k.val < 50) : g k = G (flat k) := by rw [hG, hg k hk, row_flat, col_flat]

include hG hg in
/-- Candidates rank as their pairs do. -/
theorem before_flat (k l : Fin 56) (hk : k.val < 50) (hl : l.val < 50) : Before g k l ↔ Before G (flat k) (flat l) := by
  have hiff : k < l ↔ flat k < flat l := ⟨flat_lt k l hk hl, fun h => by
    rcases lt_trichotomy k l with h' | h' | h'
    · exact h'
    · exact absurd (h' ▸ h) (lt_irrefl _)
    · exact absurd (h.trans (flat_lt l k hl hk h')) (lt_irrefl _)⟩
  unfold Before
  rw [value_flat u v G g hG hg k hk, value_flat u v G g hG hg l hl, hiff]

include hu hv hG hg hpad hne in
/-- THE PAIRS SUFFICE: at each of the first sixteen places the column of pairs holds what the whole table of sums holds. -/
theorem nth_pairs (r : Nat) (hr : r < 16) : (nth g ⟨r, by omega⟩).val < 50 ∧ flat (nth g ⟨r, by omega⟩) = nth G ⟨r, by omega⟩ := by
  set P := nth G ⟨r, by omega⟩ with hP
  have hplace : place G P = r := place_nth G _
  have hstair : ∀ Q, place G Q < 16 → ∃ k : Fin 56, k.val < 50 ∧ flat k = Q := fun Q hQ => by
    obtain ⟨k, hk, h1, h2⟩ := flat_onto (row Q) (col Q) (pair_of_place u v G hu hv hG Q hQ)
    refine ⟨k, hk, Fin.ext ?_⟩
    show 16 * (fst k).val + (snd k).val = Q.val
    rw [h1, h2]
    show 16 * (Q.val / 16) + Q.val % 16 = Q.val
    omega
  obtain ⟨k, hk, hkP⟩ := hstair P (by omega)
  have hk' : g k ≠ ⊥ := by rw [hg k hk]; exact hne _ _
  have hsmall : ∀ q, Before g q k → q.val < 50 := fun q hq => by
    by_contra h
    have hb := hpad q (by omega)
    rcases hq with h' | ⟨h', -⟩
    · rw [hb] at h'; exact not_lt_bot h'
    · exact hk' (h'.symm.trans hb)
  have hcard : place g k = r := by
    rw [← hplace]
    refine Finset.card_bij (fun q _ => flat q) (fun q hq => ?_) (fun q hq s hs h => ?_) (fun Q hQ => ?_)
    · have hq := mem_ahead.mp hq
      rw [← hkP]
      exact mem_ahead.mpr ((before_flat u v G g hG hg q k (hsmall q hq) hk).mp hq)
    · have hq := hsmall q (mem_ahead.mp hq)
      have hs := hsmall s (mem_ahead.mp hs)
      rcases lt_trichotomy q s with h' | h' | h'
      · exact absurd (h ▸ flat_lt q s hq hs h') (lt_irrefl _)
      · exact h'
      · exact absurd (h ▸ flat_lt s q hs hq h') (lt_irrefl _)
    · have hQ := mem_ahead.mp hQ
      obtain ⟨q, hq, hqQ⟩ := hstair Q ((place_lt hQ).trans (by omega))
      refine ⟨q, mem_ahead.mpr ((before_flat u v G g hG hg q k hq hk).mpr ?_), hqQ⟩
      rw [hqQ, hkP]
      exact hQ
  have : nth g ⟨r, by omega⟩ = k := nth_eq hcard
  rw [this]
  exact ⟨hk, hkP⟩

end

end Cert.Ranking

end
-- ==== Proof.TopKColumns.lean ====
/- The selection's rounds over the extended reals: round `r` finds in each column the entry at place `r`, and its row. -/
module

public import proofs.«01_k».proof.Proof.TopKRounds
public import proofs.«01_k».proof.Proof.TopKOrder
public import proofs.«01_k».proof.Proof.MixOutScalar
public import Idealize.ShloMosaic.Lib.Pointwise

@[expose] public section

noncomputable section

namespace Cert.Proof.TopK

open Cert.TopKIdeal Cert.TopKIdeal.Gen
open Idealize.ShloMosaic Idealize.SL.Sem
open Cert.Ranking
open Cert.Proof.MixOut (ofBits_top ofBits_bot ofBits_128 ofBits_56)

/-- A row's number as an extended real. -/
abbrev num {n : Nat} (i : Fin n) : EReal := ((i.val : ℝ) : EReal)

/-- Rows with equal numbers are equal. -/
theorem num_injective {n : Nat} {i j : Fin n} (h : num i = num j) : i = j := by
  have h' : (i.val : ℝ) = (j.val : ℝ) := EReal.coe_injective h
  exact Fin.ext (by exact_mod_cast h')

/-- Numbers rank as rows do. -/
theorem num_le {n : Nat} {i j : Fin n} (h : i ≤ j) : num i ≤ num j := EReal.coe_le_coe_iff.mpr (by exact_mod_cast h)

section

variable {N : Nat} (hS : Columns N) (hN : N ≤ 128) (n : BitVec 32) (hn : Ideal.ofBits .f32 n = ((N : ℝ) : EReal))
variable (s : FVec Ideal (rowsBy N) .f32) (i : Fin N) (l : Fin 512)

include hN in
/-- A row's number. -/
theorem rowNumbers_at : rowNumbers (F := Ideal) hS (ix2 i l) = num i := by
  pointwise [rowNumbers]
  have h : (BitVec.ofNat 32 i.val).toInt = (i.val : ℤ) := by
    have := i.isLt
    rw [BitVec.toInt_ofNat', Int.bmod_def]
    omega
  show ((((BitVec.ofNat 32 i.val).toInt : ℤ) : ℝ) : EReal) = _
  rw [h]
  norm_cast

/-- A column's greatest entry. -/
theorem colMax_at : colMax hS s (ix2 0 l) = Finset.univ.sup fun k : Fin N => s (ix2 k l) := by
  pointwise [colMax]
  rw [ofBits_bot]
  rfl

/-- The least number among the rows that hold it. -/
theorem colArg_at : colArg hS n s (ix2 0 l)
    = Finset.univ.inf fun k : Fin N => if s (ix2 k l) = colMax hS s (ix2 0 l) then rowNumbers (F := Ideal) hS (ix2 k l) else Ideal.ofBits .f32 n := by
  pointwise [colArg]
  rw [ofBits_top]
  rfl

/-- A column with that row's entry struck out. -/
theorem strike_at : strike hS n s (ix2 i l) = if rowNumbers (F := Ideal) hS (ix2 i l) = colArg hS n s (ix2 0 l) then ⊥ else s (ix2 i l) := by
  pointwise [strike]
  rw [ofBits_bot]

/-- A column of a block. -/
def column (k : Fin N) : EReal := s (ix2 k l)

variable (f : Fin N → EReal) (r : Fin N) (hs : ∀ k, s (ix2 k l) = left f r.val k) (hr : f (nth f r) ≠ ⊥)

include hs in
/-- With the first `r` places struck out, a round finds the entry at place `r`, -/
theorem round_max : colMax hS s (ix2 0 l) = f (nth f r) := by
  rw [colMax_at, ← sup_left f r]
  exact congrArg _ (funext hs)

include hN hn hs hr in
/-- and its row, -/
theorem round_arg : colArg hS n s (ix2 0 l) = num (nth f r) := by
  rw [colArg_at, round_max hS s l f r hs]
  simp only [rowNumbers_at hS hN, hs, hn]
  refine le_antisymm ((Finset.inf_le (Finset.mem_univ (nth f r))).trans ?_) (Finset.le_inf fun k _ => ?_)
  · rw [if_pos (left_nth f r)]
  · split
    · next h => exact num_le (nth_le_of_left f r hr k h)
    · exact EReal.coe_le_coe_iff.mpr (by exact_mod_cast (nth f r).isLt.le)

include hN hn hs hr in
/-- and strikes it out. -/
theorem round_strike : strike hS n s (ix2 i l) = left f (r.val + 1) i := by
  rw [strike_at, round_arg hS hN n hn s l f r hs hr, rowNumbers_at hS hN, left_succ, hs]
  by_cases h : i = nth f r
  · rw [if_pos h, if_pos (congrArg num h)]
  · rw [if_neg h, if_neg fun e => h (num_injective e)]

end

section

variable {N : Nat} (hS : Columns N) (hN : N ≤ 128) (n : BitVec 32) (hn : Ideal.ofBits .f32 n = ((N : ℝ) : EReal))
variable (s : FVec Ideal (rowsBy N) .f32) (l : Fin 512) (hr : ∀ r : Fin N, r.val < 16 → column s l (nth (column s l) r) ≠ ⊥)

include hN hn hr in
/-- After `r` rounds the first `r` places are struck out. -/
theorem struck_at (r : Nat) (hr16 : r ≤ 16) (hrN : r ≤ N) (i : Fin N) : struck hS n s r (ix2 i l) = left (column s l) r i := by
  induction r generalizing i with
  | zero => rw [left_zero]; rfl
  | succ r ih =>
    exact round_strike hS hN n hn (struck hS n s r) i l (column s l) ⟨r, by omega⟩ (fun k => ih (by omega) (by omega) k) (hr ⟨r, by omega⟩ (by show r < 16; omega))

end

/-- Sixteen rows laid one below the other, read at one of them. -/
theorem stack_at (v : Nat → FVec Ideal S1x512 .f32) (r : Fin 16) (l : Fin 512) : stack v (ix2 r l) = v r.val (ix2 0 l) := by
  fin_cases r <;> pointwise [stack]

section

variable {N : Nat} (hS : Columns N) (hN : N ≤ 128) (n : BitVec 32) (hn : Ideal.ofBits .f32 n = ((N : ℝ) : EReal))
variable (s : FVec Ideal (rowsBy N) .f32) (l : Fin 512) (hr : ∀ r : Fin N, r.val < 16 → column s l (nth (column s l) r) ≠ ⊥)
variable (r : Fin 16) (hrN : r.val < N)

include hN hn hr in
/-- Row `r` of the selection is the entry at place `r`. -/
theorem topValues_at : topValues hS n s (ix2 r l) = column s l (nth (column s l) ⟨r.val, hrN⟩) := by
  unfold topValues
  rw [stack_at]
  exact round_max hS _ l (column s l) ⟨r.val, hrN⟩ (struck_at hS hN n hn s l hr r.val (by omega) (by omega))

include hN hn hr in
/-- Row `r` of the selected rows is that entry's row. -/
theorem topRows_at : topRows hS n s (ix2 r l) = num (nth (column s l) ⟨r.val, hrN⟩) := by
  unfold topRows
  rw [stack_at]
  exact round_arg hS hN n hn _ l (column s l) ⟨r.val, hrN⟩ (struck_at hS hN n hn s l hr r.val (by omega) (by omega)) (hr _ r.isLt)

end

/-- The rows that a matrix of zeros and ones picks. -/
theorem pickRows_at (sel : Vec Ideal S56x16 .f32) (a : FVec Ideal S16x512 .f32) (k : Fin 56) (l : Fin 512) :
    pickRows sel a (ix2 k l) = ∑ j : Fin 16, (sel : FVec Ideal S56x16 .f32) (ix2 k j) * a (ix2 j l) := by
  pointwise [pickRows]

/-- A product of keys and queries. -/
theorem keyScores_at (k : Vec Ideal S1x128x128 .bf16) (q : FVec Ideal S128x512 .bf16) (j : Fin 128) (l : Fin 512) :
    keyScores k q (ix2 j l) = ∑ d : Fin 128, (k : FVec Ideal S1x128x128 .bf16) (ix3 0 j d) * q (ix2 d l) := by
  pointwise [keyScores]

/-- The queries. -/
theorem queries_at (x0 : Vec Ideal S512x1024 .f32) (x1 : Vec Ideal S2048x1024 .bf16) (j : Fin 2048) (l : Fin 512) :
    queries x0 x1 (ix2 j l) = ∑ d : Fin 1024, (x1 : FVec Ideal S2048x1024 .bf16) (ix2 j d) * (x0 : FVec Ideal S512x1024 .f32) (ix2 l d) := by
  pointwise [queries]

/-- The entry at the row that `p` names. -/
theorem entryAt_at (v : FVec Ideal S56x512 .f32) (p : FVec Ideal S1x512 .f32) (l : Fin 512) (k : Fin 56) (hp : p (ix2 0 l) = num k) :
    entryAt v p (ix2 0 l) = v (ix2 k l) := by
  pointwise [entryAt]
  rw [Finset.sum_eq_single k]
  · rw [hp, rowNumbers_at columns56 (by decide), if_pos rfl]
  · intro x _ hx
    rw [hp, rowNumbers_at columns56 (by decide), if_neg fun e => hx (num_injective e)]
  · exact fun h => absurd (Finset.mem_univ k) h

/-- The scores of the candidate pairs. -/
theorem pairScores_at (sel1 sel2 : Vec Ideal S56x16 .f32) (pad : Vec Ideal S56x1 .f32) (s1 s2 : FVec Ideal S128x512 .f32) (k : Fin 56) (l : Fin 512) :
    pairScores sel1 sel2 pad s1 s2 (ix2 k l)
      = pickRows sel1 (topValues columns128 0x43000000#32 s1) (ix2 k l) + pickRows sel2 (topValues columns128 0x43000000#32 s2) (ix2 k l)
        + (pad : FVec Ideal S56x1 .f32) (ix2 k 0) := by
  pointwise [pairScores]

/-- The numbers of the candidate pairs. -/
theorem pairNumbers_at (sel1 sel2 : Vec Ideal S56x16 .f32) (s1 s2 : FVec Ideal S128x512 .f32) (k : Fin 56) (l : Fin 512) :
    pairNumbers sel1 sel2 s1 s2 (ix2 k l)
      = pickRows sel1 (topRows columns128 0x43000000#32 s1) (ix2 k l) * ((128 : ℝ) : EReal) + pickRows sel2 (topRows columns128 0x43000000#32 s2) (ix2 k l) := by
  pointwise [pairNumbers]
  rw [ofBits_128]

/-- The numbers of the chosen pairs. -/
theorem headNumbers_at (sel1 sel2 : Vec Ideal S56x16 .f32) (pad : Vec Ideal S56x1 .f32) (s1 s2 : FVec Ideal S128x512 .f32) (r : Fin 16) (l : Fin 512) (k : Fin 56)
    (hk : topRows columns56 0x42600000#32 (pairScores sel1 sel2 pad s1 s2) (ix2 r l) = num k) :
    headNumbers sel1 sel2 pad s1 s2 (ix2 r l) = pairNumbers sel1 sel2 s1 s2 (ix2 k l) := by
  unfold headNumbers
  generalize topRows columns56 0x42600000#32 (pairScores sel1 sel2 pad s1 s2) = p at hk ⊢
  generalize pairNumbers sel1 sel2 s1 s2 = v
  fin_cases r <;> pointwise <;> (refine entryAt_at _ _ _ k ?_; pointwise; exact hk)

/-- The softmax of sixteen extended reals. -/
def softmax (f : Fin 16 → EReal) (r : Fin 16) : EReal :=
  Ideal.div (Ideal.exp (f r - Finset.univ.fold max ⊥ f)) (∑ k, Ideal.exp (f k - Finset.univ.fold max ⊥ f))

/-- A softmax row. -/
theorem softRows_at (v : FVec Ideal S16x512 .f32) (r : Fin 16) (l : Fin 512) :
    softRows v (ix2 r l) = softmax (fun k => v (ix2 k l)) r := by
  pointwise [softRows, expLess]
  rw [ofBits_bot]
  rfl

/-- A whole number converted to an integer word. -/
theorem fptosi_nat (e : Nat) (he : e < 16384) : FloatOps.fptosi (F := Ideal) (φ := .f32) 32 ((e : ℝ) : EReal) = BitVec.ofNat 32 e := by
  show Ideal.fptosi 32 _ = _
  unfold Ideal.fptosi
  have h : Ideal.toIntClamped (-(2 ^ (32 - 1) : Nat)) ((2 ^ (32 - 1) : Nat) - 1) ((e : ℝ) : EReal) = (e : ℤ) := by
    show max _ (min _ (if (0 : ℝ) ≤ (e : ℝ) then ⌊(e : ℝ)⌋ else ⌈(e : ℝ)⌉)) = _
    rw [if_pos (Nat.cast_nonneg e), Int.floor_natCast]
    norm_num
    omega
  rw [h]
  rfl

/-- A number as the first row of its expert. -/
theorem asRows_at (v : FVec Ideal S512x128 .f32) (l : Fin 512) (j : Fin 128) (e : Nat) (he : e < 16384) (hv : v (ix2 l j) = ((e : ℝ) : EReal)) :
    asRows v (ix2 l j) = IntOp.muli (BitVec.ofNat 32 e) 4#32 := by
  pointwise [asRows]
  rw [hv, fptosi_nat e he]
  refine congrArg (IntOp.muli · 4#32) ?_
  have h1 : (BitVec.ofNat 32 e).toInt = (e : ℤ) := by
    rw [BitVec.toInt_ofNat', Int.bmod_def]
    omega
  have h0 : ¬ (BitVec.ofNat 32 e).slt 0#32 = true := by
    rw [BitVec.slt, h1, decide_eq_true_eq, show (0#32).toInt = 0 from rfl]
    omega
  have h2 : ¬ (16383#32).slt (BitVec.ofNat 32 e) = true := by
    rw [BitVec.slt, h1, decide_eq_true_eq, show (16383#32).toInt = 16383 from rfl]
    omega
  unfold IntOp.minsi IntOp.maxsi
  rw [if_neg h0, if_neg h2]

/-- The scores that a block's head and half has of its keys. -/
def blockScores (q : FVec Ideal S2048x512 .bf16) (x2 : Vec Ideal S16x128x128 .bf16) (j : Fin 16) : FVec Ideal S128x512 .f32 := fun i =>
  ∑ d : Fin 128, (x2 : FVec Ideal S16x128x128 .bf16) (ix3 j (i 0) d) * q (ix2 ⟨128 * j.val + d.val, by omega⟩ (i 1))

/-- A half's product of keys and queries, from its part of the queries. -/
theorem blockScores_eq (q : FVec Ideal S2048x512 .bf16) (x2 : Vec Ideal S16x128x128 .bf16) (j : Fin 16) (k : Vec Ideal S1x128x128 .bf16) (w : FVec Ideal S128x512 .bf16)
    (hk : ∀ a d, (k : FVec Ideal S1x128x128 .bf16) (ix3 0 a d) = (x2 : FVec Ideal S16x128x128 .bf16) (ix3 j a d))
    (hw : ∀ d l, w (ix2 d l) = q (ix2 ⟨128 * j.val + d.val, by omega⟩ l)) : keyScores k w = blockScores q x2 j := by
  funext i
  obtain ⟨a, l, rfl⟩ : ∃ (a : Fin 128) (l : Fin 512), i = ix2 a l := ⟨i 0, i 1, eq_ix2 i⟩
  rw [keyScores_at]
  simp only [hk, hw]
  rfl

/-- The eight heads. -/
theorem heads_at (f : FVec Ideal S128x512 .f32 → FVec Ideal S128x512 .f32 → FVec Ideal S16x512 .f32) (q : FVec Ideal S2048x512 .bf16) (x2 : Vec Ideal S16x128x128 .bf16)
    (l : Fin 512) (h : Fin 8) (r : Fin 16) :
    heads f q x2 (ix2 l ⟨h.val * 16 + r.val, by omega⟩)
      = f (blockScores q x2 ⟨2 * h.val, by omega⟩) (blockScores q x2 ⟨2 * h.val + 1, by omega⟩) (ix2 r l) := by
  unfold heads
  have e : ∀ (n : Nat) (hn : n < 16), n = r.val → ix2 (⟨n, hn⟩ : Fin 16) l = ix2 r l := fun n hn h => by subst h; rfl
  fin_cases h <;>
    (pointwise
     repeat rw [dif_neg (by omega)]
     try rw [dif_pos (by omega)]
     refine (congrFun (congrArg₂ f (blockScores_eq q x2 _ _ _ (fun a d => ?_) fun d l => ?_) (blockScores_eq q x2 _ _ _ (fun a d => ?_) fun d l => ?_)) _).trans
       (congrArg _ (e _ _ (by omega))) <;>
       pointwise [r0_3, r0_4, r0_6, r0_7, r0_8, r0_9, r0_10, r0_11, r0_12, r0_13, r0_14, r0_15, r0_16, r0_17, r0_18, r0_19])

end Cert.Proof.TopK

end
-- ==== Proof.TopKGates.lean ====
/- The reference's gates read at an index. -/
module

public import proofs.«01_k».proof.Proof.TopKSpec
public import proofs.«01_k».proof.Proof.TopKColumns

@[expose] public section

set_option maxRecDepth 16384

noncomputable section

namespace Cert.Proof.TopK

open Cert.TopKRefIdeal Cert.TopKRefIdeal.Gen Cert.Ranking Cert.Proof.MixOut
open Idealize.ShloMosaic Idealize.ShloMosaic.TcCoe

/-- The greatest of sixteen scores at an index. -/
theorem greatest_at (v : FVec Ideal S65536x8x16 .f32) (t : Fin 65536) (h : Fin 8) :
    Host.reduce (FloatOps.maximumf (F := Ideal) (φ := .f32)) v (constant (F := Ideal) S_ .f32 0xFF800000#32) reducesTo_S65536x8x16_S65536x8_d2 h_S_ (ix2 t h)
      = Finset.univ.fold max (Ideal.ofBits .f32 0xFF800000#32) fun k => v (ix3 t h k) := by
  pointwise

/-- A maximum with negative infinity at an index. -/
theorem atLeastBot_at (w : FVec Ideal S65536x8 .f32) (t : Fin 65536) (h : Fin 8) :
    maximumf (broadcastInDim S65536x8 ![] bcast_S_S65536x8 (constant (F := Ideal) S_ .f32 0xFF800000#32)) w (ix2 t h)
      = max (Ideal.ofBits .f32 0xFF800000#32) (w (ix2 t h)) := by
  pointwise

/-- The exponential of scores less a number of their row, at an index. -/
theorem expLessRow_at (v : FVec Ideal S65536x8x16 .f32) (w : FVec Ideal S65536x8 .f32) (t : Fin 65536) (h : Fin 8) (r : Fin 16) :
    Host.exp (subf v (broadcastInDim S65536x8x16 ![0, 1, 2] bcast_S65536x8x1_S65536x8x16_0_1_2
        (broadcastInDim S65536x8x1 ![0, 1] bcast_S65536x8_S65536x8x1_0_1 w))) (ix3 t h r)
      = Ideal.exp (v (ix3 t h r) - w (ix2 t h)) := by
  pointwise

/-- The exponentials at an index. -/
theorem expBelow_at (v : FVec Ideal S65536x8x16 .f32) (t : Fin 65536) (h : Fin 8) (r : Fin 16) :
    expBelow v (ix3 t h r) = Ideal.exp (v (ix3 t h r) - Finset.univ.fold max ⊥ fun k => v (ix3 t h k)) := by
  unfold expBelow
  rw [expLessRow_at, atLeastBot_at, greatest_at, ofBits_bot, max_eq_right bot_le]

/-- The gates at an index. -/
theorem gatesOf_at (v : FVec Ideal S65536x8x16 .f32) (t : Fin 65536) (h : Fin 8) (r : Fin 16) :
    gatesOf v (ix3 t h r) = softmax (fun k => v (ix3 t h k)) r := by
  pointwise [gatesOf, expBelow_at]
  rfl

end Cert.Proof.TopK

end
-- ==== Proof.TopKRead.lean ====
/- The reference's scores, pairs and gates read at an index. -/
module

public import proofs.«01_k».proof.Proof.TopKGates
public import proofs.«01_k».proof.Proof.TopKColumns

@[expose] public section

set_option maxRecDepth 16384

noncomputable section

namespace Cert.Proof.TopK

open Cert.TopKRefIdeal Cert.TopKRefIdeal.Gen Cert.Ranking Cert.Proof.MixOut
open Idealize.ShloMosaic Idealize.ShloMosaic.TcCoe

/-- The first half's scores at an index. -/
theorem firstHalf_at (s : FVec Ideal S65536x8x2x128 .f32) (t : Fin 65536) (h : Fin 8) (k : Fin 128) :
    firstHalf s (ix3 t h k) = s (ix4 t h 0 k) := by
  pointwise [firstHalf]

/-- The second half's scores at an index. -/
theorem secondHalf_at (s : FVec Ideal S65536x8x2x128 .f32) (t : Fin 65536) (h : Fin 8) (k : Fin 128) :
    secondHalf s (ix3 t h k) = s (ix4 t h 1 k) := by
  pointwise [secondHalf]

/-- The pairs' sums at an index. -/
theorem pairSums_at (a b : FVec Ideal S65536x8x16 .f32) (t : Fin 65536) (h : Fin 8) (P : Fin 256) :
    pairSums a b (ix3 t h P) = a (ix3 t h (row P)) + b (ix3 t h (Ranking.col P)) := by
  pointwise [pairSums]
  rfl

/-- The pairs' numbers at an index. -/
theorem pairIds_at (a b : IVec S65536x8x16 32) (t : Fin 65536) (h : Fin 8) (P : Fin 256) :
    pairIds a b (ix3 t h P) = IntOp.addi (IntOp.muli (a (ix3 t h (row P))) 128#32) (b (ix3 t h (Ranking.col P))) := by
  pointwise [pairIds]
  rfl

/-- The scores at an index. -/
theorem refScores_at (hn : FVec Ideal S65536x1024 .f32) (wq : FVec Ideal S1024x2048 .f32) (keys : FVec Ideal S8x2x128x128 .f32)
    (t : Fin 65536) (h : Fin 8) (p : Fin 2) (j : Fin 128) :
    refScores hn wq keys (ix4 t h p j) = ∑ d : Fin 128, keys (ix4 h p j d)
      * ∑ k : Fin 1024, hn (ix2 t k) * wq (ix2 k ⟨h.val * 256 + p.val * 128 + d.val, by omega⟩) := by
  pointwise [refScores, refQueries]

/-- The rows at an index. -/
theorem refRows_at (s : FVec Ideal S65536x8x2x128 .f32) (t : Fin 65536) (h : Fin 8) (r : Fin 16) :
    refRows s (ix2 t ⟨h.val * 16 + r.val, by omega⟩) = IntOp.muli (taken (refIds s) (placesOf256 (refSums s)) (ix3 t h r)) 4#32 := by
  pointwise [refRows]

/-- The gates at an index. -/
theorem refGates_at (s : FVec Ideal S65536x8x2x128 .f32) (t : Fin 65536) (h : Fin 8) (r : Fin 16) :
    refGates s (ix2 t ⟨h.val * 16 + r.val, by omega⟩) = softmax (fun k => bestOf256 (refSums s) (ix3 t h k)) r := by
  pointwise [refGates, gatesOf_at]

end Cert.Proof.TopK

end
-- ==== Proof.TopKSort.lean ====
/- The reference's sorts read at an index: the sixteen best entries of a row, and where they stand. -/
module

public import proofs.«01_k».proof.Proof.TopKSpec
public import proofs.«01_k».proof.Proof.TopKColumns

@[expose] public section

set_option maxRecDepth 16384

noncomputable section

namespace Cert.Proof.TopK

open Cert.TopKRefIdeal Cert.TopKRefIdeal.Gen Cert.Ranking Cert.Proof.MixOut
open Idealize.ShloMosaic Idealize.ShloMosaic.TcCoe

/-- A stable sort by "greater" puts the entry of rank `k` at position `k`. -/
theorem sortedFrom_nth {n : Nat} (f : Fin n → EReal) (k : Fin n) : sortedFrom (fun x y => decide (f y < f x)) k = nth f k := by
  unfold sortedFrom
  rw [List.get_eq_getElem]
  have e : sortPositions n (fun x y => decide (f y < f x)) = (List.finRange n).map (nth f) := sort_eq f
  rw [List.getElem_of_eq e]
  simp

/-- The total order's "greater" as a truth value. -/
theorem greater_eq (x y : EReal) : (FloatOps.cmpfTotal (F := Ideal) (φ := .f32) .gt x y == 1#1) = decide (y < x) := by
  show (BitVec.ofBool (decide (y < x)) == 1#1) = _
  cases decide (y < x) <;> rfl

/-- The entries of one token and head. -/
abbrev entries {n : Nat} (x : FVec Ideal ⟨3, ![65536, 8, n]⟩ .f32) (t : Fin 65536) (h : Fin 8) : Fin n → EReal := fun k => x (ix3 t h k)

/-- The index `(t, h, r)` with `k` in its last place. -/
theorem along_last {n : Nat} (t : Fin 65536) (h : Fin 8) (r k : Fin n) :
    Shape.Idx.along (s := ⟨3, ![65536, 8, n]⟩) (ix3 t h r) 2 k = ix3 t h k := by
  funext i
  fin_cases i <;> rfl

/-- The place of a row's entry of rank `r` in the sort of a whole array along its last axis. -/
theorem sortPlace {n : Nat} (x : FVec Ideal ⟨3, ![65536, 8, n]⟩ .f32) (t : Fin 65536) (h : Fin 8) (r : Fin n) :
    sortedFrom (fun k k' : Fin n => FloatOps.cmpfTotal (F := Ideal) (φ := .f32) .gt
        (x (Shape.Idx.along (s := ⟨3, ![65536, 8, n]⟩) (ix3 t h r) 2 k)) (x (Shape.Idx.along (s := ⟨3, ![65536, 8, n]⟩) (ix3 t h r) 2 k')) == 1#1) r
      = nth (entries x t h) r := by
  simp only [greater_eq]
  rw [← sortedFrom_nth]
  congr 1
  funext k k'
  rw [along_last, along_last]

/-- An array sorted along its last axis, at an index. -/
theorem sorted_at {n : Nat} (x : FVec Ideal ⟨3, ![65536, 8, n]⟩ .f32) (t : Fin 65536) (h : Fin 8) (r : Fin n) (y : IVec ⟨3, ![65536, 8, n]⟩ 32) :
    (Host.sort2 ⟨3, ![65536, 8, n]⟩ 2 (fun l r => FloatOps.cmpfTotal (F := Ideal) (φ := .f32) .gt l.1 r.1) x y).1 (ix3 t h r)
      = entries x t h (nth (entries x t h) r)
    ∧ (Host.sort2 ⟨3, ![65536, 8, n]⟩ 2 (fun l r => FloatOps.cmpfTotal (F := Ideal) (φ := .f32) .gt l.1 r.1) x y).2 (ix3 t h r)
      = y (ix3 t h (nth (entries x t h) r)) := by
  unfold Host.sort2
  rw [dif_pos (show 2 < (⟨3, ![65536, 8, n]⟩ : Shape).rank from (by decide : 2 < 3))]
  exact ⟨congrArg x ((along_last t h r _).trans (congrArg _ (sortPlace x t h r))),
    congrArg y ((along_last t h r _).trans (congrArg _ (sortPlace x t h r)))⟩

/-- The sixteen best of 128 entries at an index. -/
theorem bestOf128_at (x : FVec Ideal S65536x8x128 .f32) (t : Fin 65536) (h : Fin 8) (r : Fin 16) :
    bestOf128 x (ix3 t h r) = entries x t h (nth (entries x t h) ⟨r.val, by omega⟩) := by
  refine Eq.trans ?_ (sorted_at x t h ⟨r.val, by omega⟩ (fun i => iotaInDim S65536x8x128 32 2 i)).1
  pointwise [bestOf128, Host.topK]

/-- Their places at an index. -/
theorem placesOf128_at (x : FVec Ideal S65536x8x128 .f32) (t : Fin 65536) (h : Fin 8) (r : Fin 16) :
    placesOf128 x (ix3 t h r) = BitVec.ofNat 32 (nth (entries x t h) ⟨r.val, by omega⟩).val := by
  refine Eq.trans ?_ (sorted_at x t h ⟨r.val, by omega⟩ (fun i => iotaInDim S65536x8x128 32 2 i)).2
  pointwise [placesOf128, Host.topK]

/-- The sixteen best of 256 entries at an index. -/
theorem bestOf256_at (x : FVec Ideal S65536x8x256 .f32) (t : Fin 65536) (h : Fin 8) (r : Fin 16) :
    bestOf256 x (ix3 t h r) = entries x t h (nth (entries x t h) ⟨r.val, by omega⟩) := by
  refine Eq.trans ?_ (sorted_at x t h ⟨r.val, by omega⟩ (fun i => iotaInDim S65536x8x256 32 2 i)).1
  pointwise [bestOf256, Host.topK]

/-- Their places at an index. -/
theorem placesOf256_at (x : FVec Ideal S65536x8x256 .f32) (t : Fin 65536) (h : Fin 8) (r : Fin 16) :
    placesOf256 x (ix3 t h r) = BitVec.ofNat 32 (nth (entries x t h) ⟨r.val, by omega⟩).val := by
  refine Eq.trans ?_ (sorted_at x t h ⟨r.val, by omega⟩ (fun i => iotaInDim S65536x8x256 32 2 i)).2
  pointwise [placesOf256, Host.topK]

end Cert.Proof.TopK

end
-- ==== Proof.TopKTake.lean ====
/- The reference's selection of entries by place, read at an index. -/
module

public import proofs.«01_k».proof.Proof.TopKSpec
public import proofs.«01_k».proof.Proof.TopKColumns

@[expose] public section

set_option maxRecDepth 16384

noncomputable section

namespace Cert.Proof.TopK

open Cert.TopKRefIdeal Cert.TopKRefIdeal.Gen Cert.Ranking Cert.Proof.MixOut
open Idealize.ShloMosaic Idealize.ShloMosaic.TcCoe

/-- A place below 256 is taken as it stands. -/
theorem wrapped_at (i : IVec S65536x8x16 32) (t : Fin 65536) (h : Fin 8) (r : Fin 16) (u : Fin 1) (P : Fin 256)
    (hi : i (ix3 t h r) = BitVec.ofNat 32 P.val) : wrapped i (ix4 t h r u) = BitVec.ofNat 32 P.val := by
  pointwise [wrapped]
  rw [hi]
  revert P
  exact fun P _ => (by decide +kernel : ∀ P : Fin 256, Scalar.select (IntOp.cmpi .slt (BitVec.ofNat 32 P.val) 0#32)
    (IntOp.addi (BitVec.ofNat 32 P.val) 256#32) (BitVec.ofNat 32 P.val) = BitVec.ofNat 32 P.val) P

/-- A place below 256 is in range. -/
theorem inRange_at (w : IVec S65536x8x16x1 32) (t : Fin 65536) (h : Fin 8) (r : Fin 16) (P : Fin 256)
    (hw : w (ix4 t h r 0) = BitVec.ofNat 32 P.val) : inRange w (ix3 t h r) = 1#1 := by
  pointwise [inRange]
  rw [Finset.univ_unique, Finset.fold_singleton]
  show IntOp.andi (IntOp.andi (IntOp.cmpi .sge (w (ix4 t h r 0)) 0#32) (IntOp.cmpi .sle (w (ix4 t h r 0)) 255#32)) 1#1 = 1#1
  rw [hw]
  exact (by decide +kernel : ∀ P : Fin 256, IntOp.andi (IntOp.andi (IntOp.cmpi .sge (BitVec.ofNat 32 P.val) 0#32)
    (IntOp.cmpi .sle (BitVec.ofNat 32 P.val) 255#32)) 1#1 = 1#1) P

/-- The entry gathered for a place below 256. -/
theorem gathered_at (x : IVec S65536x8x256 32) (w : IVec S65536x8x16x1 32) (t : Fin 65536) (h : Fin 8) (r : Fin 16) (P : Fin 256)
    (hw : w (ix4 t h r 0) = BitVec.ofNat 32 P.val) :
    Host.gather gather_S65536x8x256_S65536x8x16x1_S65536x8x16_n_2_01_01_2_3_111 x w (ix3 t h r) = x (ix3 t h P) := by
  unfold Host.gather
  congr 1
  have hbatch : ∀ a : Fin 3, a = 0 ∨ a = 1 → a ∈ gather_S65536x8x256_S65536x8x16x1_S65536x8x16_n_2_01_01_2_3_111.operandBatchingDims := by
    rintro a (rfl | rfl)
    · exact List.mem_cons_self
    · exact List.mem_cons_of_mem _ List.mem_cons_self
  funext a
  apply Fin.ext
  fin_cases a
  · show GatherDims.start _ _ _ 0 + GatherDims.batchCoord _ _ 0 + GatherDims.offCoord _ _ 0 = t.val
    rw [GatherDims.start_batching _ _ _ _ (hbatch 0 (.inl rfl)), GatherDims.offCoord_eq_zero _ _ _ (fun k => ((GatherDims.mem_sKept _ _).1 k).2 (hbatch 0 (.inl rfl)))]
    rw [Nat.zero_add, Nat.add_zero]
    rfl
  · show GatherDims.start _ _ _ 1 + GatherDims.batchCoord _ _ 1 + GatherDims.offCoord _ _ 1 = h.val
    rw [GatherDims.start_batching _ _ _ _ (hbatch 1 (.inr rfl)), GatherDims.offCoord_eq_zero _ _ _ (fun k => ((GatherDims.mem_sKept _ _).1 k).2 (hbatch 1 (.inr rfl)))]
    rw [Nat.zero_add, Nat.add_zero]
    rfl
  · show GatherDims.start _ _ _ 2 + GatherDims.batchCoord _ _ 2 + GatherDims.offCoord _ _ 2 = P.val
    have hb : (2 : Fin 3) ∉ gather_S65536x8x256_S65536x8x16x1_S65536x8x16_n_2_01_01_2_3_111.operandBatchingDims := by
      show (2 : Fin 3) ∉ [0, 1]; decide
    have hm : (2 : Fin 3) ∈ gather_S65536x8x256_S65536x8x16x1_S65536x8x16_n_2_01_01_2_3_111.startIndexMap := List.mem_cons_self
    have hc : (2 : Fin 3) ∈ gather_S65536x8x256_S65536x8x16x1_S65536x8x16_n_2_01_01_2_3_111.collapsedSliceDims := List.mem_cons_self
    rw [GatherDims.batchCoord_eq_zero _ _ _ hb, GatherDims.offCoord_eq_zero _ _ _ (fun k => ((GatherDims.mem_sKept _ _).1 k).1 hc), Nat.add_zero]
    unfold GatherDims.start
    rw [dif_pos hm]
    have e : ∀ i : S65536x8x16x1.Idx, i = ix4 t h r 0 → min (w i).toInt.toNat 255 = P.val := by
      rintro i rfl
      rw [hw]
      exact (by decide +kernel : ∀ P : Fin 256, min (BitVec.ofNat 32 P.val).toInt.toNat 255 = P.val) P
    refine e _ ?_
    funext b
    apply Fin.ext
    fin_cases b <;> rfl

/-- The entry taken at a place below 256. -/
theorem taken_at (x : IVec S65536x8x256 32) (i : IVec S65536x8x16 32) (t : Fin 65536) (h : Fin 8) (r : Fin 16) (P : Fin 256)
    (hi : i (ix3 t h r) = BitVec.ofNat 32 P.val) : taken x i (ix3 t h r) = x (ix3 t h P) := by
  have hw := wrapped_at i t h r 0 P hi
  have hg := gathered_at x _ t h r P hw
  pointwise [taken]
  rw [inRange_at _ t h r P hw, hg]
  rfl

end Cert.Proof.TopK

end
-- ==== Proof.TopKChoice.lean ====
/- The choice of sixteen experts from the scores of two halves, and both programs' readings of it: the reference ranks all 256
   pairs of the halves' sixteen best, the kernel ranks the fifty that can be among the best and pads them with negative infinity. -/
module

public import proofs.«01_k».proof.Proof.TopKRead
public import proofs.«01_k».proof.Proof.TopKSort
public import proofs.«01_k».proof.Proof.TopKTake

@[expose] public section

set_option maxRecDepth 16384

noncomputable section

namespace Cert.Proof.TopK

open Cert.Ranking Cert.Proof.MixOut
open Idealize.ShloMosaic Idealize.ShloMosaic.TcCoe

/-- The row of the entry of rank `a` among 128 scores. -/
def bestRow (u : Fin 128 → EReal) (a : Fin 16) : Fin 128 := nth u ⟨a.val, by omega⟩

/-- Its score. -/
def best (u : Fin 128 → EReal) (a : Fin 16) : EReal := u (bestRow u a)

/-- The sum of a pair of the two halves' best scores. -/
def pairValue (u v : Fin 128 → EReal) (P : Fin 256) : EReal := best u (row P) + best v (Ranking.col P)

/-- The pair of rank `r`. -/
def chosen (u v : Fin 128 → EReal) (r : Fin 16) : Fin 256 := nth (pairValue u v) ⟨r.val, by omega⟩

/-- The number of that pair's expert. -/
def expert (u v : Fin 128 → EReal) (r : Fin 16) : Nat :=
  128 * (bestRow u (row (chosen u v r))).val + (bestRow v (Ranking.col (chosen u v r))).val

/-- It is below 128 times 128. -/
theorem expert_lt (u v : Fin 128 → EReal) (r : Fin 16) : expert u v r < 16384 := by
  unfold expert
  omega

/-- The best scores of higher rank are no greater. -/
theorem best_antitone (u : Fin 128 → EReal) (a b : Fin 16) (h : a ≤ b) : best u b ≤ best u a := nth_antitone u h

/-! ## The reference -/

section
open Cert.TopKRefIdeal Cert.TopKRefIdeal.Gen

variable (s : FVec Ideal S65536x8x2x128 .f32) (t : Fin 65536) (h : Fin 8)

/-- One half's scores of a token and head. -/
def half (p : Fin 2) : Fin 128 → EReal := fun j => s (ix4 t h p j)

/-- The rows that the reference ranks are the halves. -/
theorem entries_first : entries (firstHalf s) t h = half s t h 0 := funext fun k => firstHalf_at s t h k
/-- So for the second half. -/
theorem entries_second : entries (secondHalf s) t h = half s t h 1 := funext fun k => secondHalf_at s t h k

/-- The sums of all pairs. -/
theorem entries_sums : entries (refSums s) t h = pairValue (half s t h 0) (half s t h 1) := funext fun P => by
  show pairSums (bestOf128 (firstHalf s)) (bestOf128 (secondHalf s)) (ix3 t h P) = _
  rw [pairSums_at, bestOf128_at, bestOf128_at, entries_first, entries_second]
  rfl

/-- The sum of the pair of rank `r`. -/
theorem best_pair (r : Fin 16) : bestOf256 (refSums s) (ix3 t h r)
    = pairValue (half s t h 0) (half s t h 1) (chosen (half s t h 0) (half s t h 1) r) := by
  rw [bestOf256_at, entries_sums]
  rfl

/-- The number of a pair as a word. -/
theorem number_word (a b : Fin 128) : IntOp.addi (IntOp.muli (BitVec.ofNat 32 a.val) 128#32) (BitVec.ofNat 32 b.val) = BitVec.ofNat 32 (128 * a.val + b.val) := by
  show BitVec.ofNat 32 a.val * 128#32 + BitVec.ofNat 32 b.val = _
  apply BitVec.eq_of_toNat_eq
  simp only [BitVec.toNat_add, BitVec.toNat_mul, BitVec.toNat_ofNat]
  omega

/-- The number of the pair of rank `r`. -/
theorem taken_pair (r : Fin 16) : taken (refIds s) (placesOf256 (refSums s)) (ix3 t h r)
    = BitVec.ofNat 32 (expert (half s t h 0) (half s t h 1) r) := by
  rw [taken_at _ _ t h r (chosen (half s t h 0) (half s t h 1) r) (by rw [placesOf256_at, entries_sums]; rfl)]
  show pairIds (placesOf128 (firstHalf s)) (placesOf128 (secondHalf s)) _ = _
  rw [pairIds_at, placesOf128_at, placesOf128_at, entries_first, entries_second]
  exact number_word _ _

end

/-! ## The kernel -/

section
open Cert.TopKIdeal Cert.TopKIdeal.Gen

variable (sel1 sel2 : FVec Ideal S56x16 .f32) (pad : FVec Ideal S56x1 .f32)
  (h1 : ∀ k j, sel1 (ix2 k j) = if k.val < 50 ∧ fst k = j then 1 else 0)
  (h2 : ∀ k j, sel2 (ix2 k j) = if k.val < 50 ∧ snd k = j then 1 else 0)
  (hp : ∀ k, pad (ix2 k 0) = if k.val < 50 then 0 else ⊥)

/-- What a matrix with a single one in each of its first fifty rows picks. -/
theorem picked (sel : FVec Ideal S56x16 .f32) (e : Fin 56 → Fin 16) (he : ∀ k j, sel (ix2 k j) = if k.val < 50 ∧ e k = j then 1 else 0)
    (a : FVec Ideal S16x512 .f32) (k : Fin 56) (l : Fin 512) : pickRows sel a (ix2 k l) = if k.val < 50 then a (ix2 (e k) l) else 0 := by
  rw [pickRows_at]
  simp only [he]
  by_cases hk : k.val < 50
  · rw [if_pos hk, Finset.sum_eq_single (e k)]
    · rw [if_pos ⟨hk, rfl⟩, one_mul]
    · intro j _ hj
      rw [if_neg (fun h => hj h.2.symm), zero_mul]
    · exact fun h => absurd (Finset.mem_univ _) h
  · rw [if_neg hk]
    exact Finset.sum_eq_zero fun j _ => by rw [if_neg (fun h => hk h.1), zero_mul]

variable (s1 s2 : FVec Ideal S128x512 .f32) (l : Fin 512)

/-- The sixteen best entries are not negative infinity where sixteen entries are not. -/
theorem notBot {n : Nat} (hn : 16 ≤ n) (u : Fin n → EReal) (T : Finset (Fin n)) (hT : ∀ p ∈ T, u p ≠ ⊥) (hc : 16 ≤ T.card) (r : Fin n) (hr : r.val < 16) :
    u (nth u r) ≠ ⊥ := nth_ne_bot u r T hT (by omega)

/-- A half's best scores. -/
theorem best_at (s : FVec Ideal S128x512 .f32) (hs : ∀ j, column s l j ≠ ⊥) (a : Fin 16) :
    topValues columns128 0x43000000#32 s (ix2 a l) = best (column s l) a :=
  topValues_at columns128 (by norm_num) _ (by rw [ofBits_128]; norm_num) s l
    (fun r hr => notBot (by norm_num) _ Finset.univ (fun p _ => hs p) (by simp) r hr) a (by omega)

/-- Their rows. -/
theorem bestRow_at (s : FVec Ideal S128x512 .f32) (hs : ∀ j, column s l j ≠ ⊥) (a : Fin 16) :
    topRows columns128 0x43000000#32 s (ix2 a l) = num (bestRow (column s l) a) :=
  topRows_at columns128 (by norm_num) _ (by rw [ofBits_128]; norm_num) s l
    (fun r hr => notBot (by norm_num) _ Finset.univ (fun p _ => hs p) (by simp) r hr) a (by omega)

variable (n1 : ∀ j, column s1 l j ≠ ⊥) (n2 : ∀ j, column s2 l j ≠ ⊥)

include h1 h2 hp n1 n2

/-- The sums of the candidate pairs. -/
theorem candidate_at (k : Fin 56) : column (pairScores sel1 sel2 pad s1 s2) l k
    = if k.val < 50 then best (column s1 l) (fst k) + best (column s2 l) (snd k) else ⊥ := by
  show pairScores sel1 sel2 pad s1 s2 (ix2 k l) = _
  rw [pairScores_at, picked sel1 fst h1, picked sel2 snd h2, hp]
  by_cases hk : k.val < 50
  · rw [if_pos hk, if_pos hk, if_pos hk, if_pos hk, best_at l s1 n1, best_at l s2 n2, add_zero]
  · rw [if_neg hk, if_neg hk, if_neg hk, if_neg hk, zero_add, EReal.add_bot]

/-- No sum of two best scores is negative infinity. -/
theorem sum_ne_bot (a b : Fin 16) : best (column s1 l) a + best (column s2 l) b ≠ ⊥ := fun h =>
  (EReal.add_eq_bot_iff.mp h).elim (n1 _) (n2 _)

/-- The candidate of rank `r` is the pair of rank `r`. -/
theorem candidate_rank (r : Fin 16) :
    (nth (column (pairScores sel1 sel2 pad s1 s2) l) ⟨r.val, by omega⟩).val < 50
    ∧ flat (nth (column (pairScores sel1 sel2 pad s1 s2) l) ⟨r.val, by omega⟩) = chosen (column s1 l) (column s2 l) r :=
  nth_pairs (best (column s1 l)) (best (column s2 l)) (pairValue (column s1 l) (column s2 l)) (column (pairScores sel1 sel2 pad s1 s2) l)
    (fun a b => best_antitone _ a b) (fun a b => best_antitone _ a b) (fun _ => rfl)
    (fun k hk => by rw [candidate_at sel1 sel2 pad h1 h2 hp s1 s2 l n1 n2, if_pos hk])
    (fun k hk => by rw [candidate_at sel1 sel2 pad h1 h2 hp s1 s2 l n1 n2, if_neg (by omega)])
    (sum_ne_bot sel1 sel2 pad h1 h2 hp s1 s2 l n1 n2) r.val r.isLt

/-- Nor is any of the sixteen best candidates. -/
theorem candidate_ne_bot (r : Fin 56) (hr : r.val < 16) :
    column (pairScores sel1 sel2 pad s1 s2) l (nth (column (pairScores sel1 sel2 pad s1 s2) l) r) ≠ ⊥ := by
  rw [candidate_at sel1 sel2 pad h1 h2 hp s1 s2 l n1 n2, if_pos (candidate_rank sel1 sel2 pad h1 h2 hp s1 s2 l n1 n2 ⟨r.val, hr⟩).1]
  exact sum_ne_bot sel1 sel2 pad h1 h2 hp s1 s2 l n1 n2 _ _

/-- The kernel's gates of one head and token. -/
theorem headGates_at (r : Fin 16) : headGates sel1 sel2 pad s1 s2 (ix2 r l)
    = softmax (fun r => pairValue (column s1 l) (column s2 l) (chosen (column s1 l) (column s2 l) r)) r := by
  unfold headGates
  rw [softRows_at]
  congr 1
  funext r
  rw [topValues_at columns56 (by norm_num) _ (by rw [ofBits_56]; norm_num) _ l (candidate_ne_bot sel1 sel2 pad h1 h2 hp s1 s2 l n1 n2) r (by omega),
    candidate_at sel1 sel2 pad h1 h2 hp s1 s2 l n1 n2, if_pos (candidate_rank sel1 sel2 pad h1 h2 hp s1 s2 l n1 n2 r).1]
  rw [← (candidate_rank sel1 sel2 pad h1 h2 hp s1 s2 l n1 n2 r).2]
  simp only [pairValue, row_flat, col_flat]

/-- The kernel's expert numbers of one head and token. -/
theorem headNumbers_eq (r : Fin 16) : headNumbers sel1 sel2 pad s1 s2 (ix2 r l) = ((expert (column s1 l) (column s2 l) r : ℝ) : EReal) := by
  have hr := candidate_rank sel1 sel2 pad h1 h2 hp s1 s2 l n1 n2 r
  rw [headNumbers_at sel1 sel2 pad s1 s2 r l _ (topRows_at columns56 (by norm_num) _ (by rw [ofBits_56]; norm_num) _ l
    (candidate_ne_bot sel1 sel2 pad h1 h2 hp s1 s2 l n1 n2) r (by omega))]
  rw [pairNumbers_at, picked sel1 fst h1, picked sel2 snd h2, if_pos hr.1, if_pos hr.1, bestRow_at l s1 n1, bestRow_at l s2 n2]
  unfold expert
  rw [← hr.2, row_flat, col_flat]
  simp only [num]
  push_cast
  rw [mul_comm]

end

end Cert.Proof.TopK

end
-- ==== Proof.TopKEntry.lean ====
/- The operands that the host prepares for the selection's kernel, and each window's block read at an index. -/
module

public import proofs.«01_k».proof.Proof.TopKChoice
public import Idealize.ShloMosaic.Lib.Pipeline.ValueKit
public import Idealize.ShloMosaic.Lib.Pointwise

@[expose] public section

set_option maxRecDepth 16384

noncomputable section

namespace Cert.Proof.TopK

open Cert.TopKIdeal Cert.TopKIdeal.Gen Cert.Ranking Cert.Proof.MixOut
open Idealize.ShloMosaic Idealize.ShloMosaic.TcCoe Idealize.SL.Sem

variable (m : (ℓ : Loc nD τ sig) → Buf (Elt Ideal) ℓ)

/-- What the host leaves in the two prepared operands: the query matrix transposed and the keys with heads and halves in one axis,
    both in another format. -/
theorem prepared (c : Dev nD) :
    V m c main_v1 = truncf (F := Ideal) .bf16 (transpose S2048x1024 [1, 0] (m ((c : Thread nD τ).loc main_arg1)) transposes_S1024x2048_S2048x1024_1_0) bitsLt_bf16_f32
    ∧ V m c main_v3 = truncf (F := Ideal) .bf16 (shapeCast S16x128x128 (m ((c : Thread nD τ).loc main_arg2)) shapeCasts_S8x2x128x128_S16x128x128) bitsLt_bf16_f32 := by
  refine ⟨?_, ?_⟩ <;> (unfold V; after_results; try rfl)

/-- The three tables that come with the kernel. -/
theorem tables (c : Dev nD) :
    V m c main_cst = (fun i => FloatOps.ofBits (F := Ideal) .f32 (lit0 (S56x16.rowMajor i)))
    ∧ V m c main_cst_0 = (fun i => FloatOps.ofBits (F := Ideal) .f32 (lit1 (S56x16.rowMajor i)))
    ∧ V m c main_cst_1 = (fun i => FloatOps.ofBits (F := Ideal) .f32 (lit2 (S56x1.rowMajor i))) := by
  refine ⟨?_, ?_, ?_⟩ <;> (unfold V; after_results; try rfl)

/-- The first table marks each candidate pair's first member. -/
theorem table0 : ∀ (k : Fin 56) (j : Fin 16), lit0 (S56x16.rowMajor (ix2 k j)) = if k.val < 50 ∧ fst k = j then 0x3F800000#32 else 0x00000000#32 := by
  decide +kernel

/-- The second table marks its second member. -/
theorem table1 : ∀ (k : Fin 56) (j : Fin 16), lit1 (S56x16.rowMajor (ix2 k j)) = if k.val < 50 ∧ snd k = j then 0x3F800000#32 else 0x00000000#32 := by
  decide +kernel

/-- The third table excludes the six rows that stand for no pair. -/
theorem table2 : ∀ k : Fin 56, lit2 (S56x1.rowMajor (ix2 k 0)) = if k.val < 50 then 0x00000000#32 else 0xFF800000#32 := by
  decide +kernel

/-- Where each window's block lies at a grid point. -/
theorem places : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![0, 0]
    ∧ win0_6.index t = ![t.val, 0] ∧ win0_7.index t = ![t.val, 0] :=
  (by decide +kernel : ∀ t : Fin grid0.N, _)

/-- The token of a grid point's block row. -/
def token (t : Fin cfg0.N) (l : Fin 512) : Fin 65536 := ⟨t.val * 512 + l.val, by have : t.val < 128 := t.isLt; omega⟩

/-- The block of the normed stream. -/
theorem block0 (c : Dev nD) (t : Fin cfg0.N) (l : Fin 512) (d : Fin 1024) :
    iblk m c 0 t (ix2 l d) = m ((c : Thread nD τ).loc main_arg0) (ix2 (token t l) d) := by
  show V m c main_arg0 (((cfg0.win 0).blk t).view.emb (ix2 l d)) = _
  blk_point [V, token, places t]

/-- The query matrix's block. -/
theorem block1 (c : Dev nD) (t : Fin cfg0.N) (j : Fin 2048) (d : Fin 1024) :
    iblk m c 1 t (ix2 j d) = m ((c : Thread nD τ).loc main_arg1) (ix2 d j) := by
  show V m c main_v1 (((cfg0.win 1).blk t).view.emb (ix2 j d)) = _
  rw [(prepared m c).1]
  pointwise
  blk_ext [places t]

/-- Where an index of the keys' block lies. -/
theorem emb2 (t : Fin cfg0.N) (j : Fin 16) (a d : Fin 128) : ((cfg0.win 2).blk t).view.emb (ix3 j a d) = ix3 j a d := by
  blk_ext [places t]

/-- Two indices of the keys with equal numbers of head and half are one. -/
theorem sameKey {h h' : Fin 8} {p p' : Fin 2} (e : h'.val = h.val) (f : p'.val = p.val) (a d : Fin 128) : ix4 h' p' a d = ix4 h p a d := by
  rw [Fin.ext e, Fin.ext f]

/-- The keys with heads and halves in one axis. -/
theorem keys_at (x : FVec Ideal S8x2x128x128 .f32) (j : Fin 16) (a d : Fin 128) :
    shapeCast S16x128x128 x shapeCasts_S8x2x128x128_S16x128x128 (ix3 j a d) = x (ix4 ⟨j.val / 2, by omega⟩ ⟨j.val % 2, by omega⟩ a d) := by
  pointwise

/-- The keys' block. -/
theorem block2 (c : Dev nD) (t : Fin cfg0.N) (h : Fin 8) (p : Fin 2) (a d : Fin 128) :
    iblk m c 2 t (ix3 ⟨2 * h.val + p.val, by omega⟩ a d) = m ((c : Thread nD τ).loc main_arg2) (ix4 h p a d) := by
  show V m c main_v3 (((cfg0.win 2).blk t).view.emb (ix3 ⟨2 * h.val + p.val, by omega⟩ a d)) = _
  rw [(prepared m c).2, emb2]
  refine (keys_at (m ((c : Thread nD τ).loc main_arg2)) ⟨2 * h.val + p.val, by omega⟩ a d).trans ?_
  exact congrArg (m ((c : Thread nD τ).loc main_arg2)) (sameKey (by dsimp only; omega) (by dsimp only; omega) a d)

/-- Where an index of the first table's block lies. -/
theorem emb3 (t : Fin cfg0.N) (k : Fin 56) (j : Fin 16) : ((cfg0.win 3).blk t).view.emb (ix2 k j) = ix2 k j := by
  blk_ext [places t]

/-- Where an index of the second table's block lies. -/
theorem emb4 (t : Fin cfg0.N) (k : Fin 56) (j : Fin 16) : ((cfg0.win 4).blk t).view.emb (ix2 k j) = ix2 k j := by
  blk_ext [places t]

/-- Where an index of the third table's block lies. -/
theorem emb5 (t : Fin cfg0.N) (k : Fin 56) : ((cfg0.win 5).blk t).view.emb (ix2 k 0) = ix2 k 0 := by
  blk_ext [places t]

/-- The first table's block. -/
theorem block3 (c : Dev nD) (t : Fin cfg0.N) (k : Fin 56) (j : Fin 16) :
    iblk m c 3 t (ix2 k j) = if k.val < 50 ∧ fst k = j then (1 : EReal) else 0 := by
  show V m c main_cst (((cfg0.win 3).blk t).view.emb (ix2 k j)) = _
  rw [(tables m c).1, emb3]
  show Ideal.ofBits .f32 (lit0 (S56x16.rowMajor (ix2 k j))) = _
  rw [table0]
  split
  · rw [ofBits_1]; rfl
  · rw [ofBits_0]; rfl

/-- The second table's block. -/
theorem block4 (c : Dev nD) (t : Fin cfg0.N) (k : Fin 56) (j : Fin 16) :
    iblk m c 4 t (ix2 k j) = if k.val < 50 ∧ snd k = j then (1 : EReal) else 0 := by
  show V m c main_cst_0 (((cfg0.win 4).blk t).view.emb (ix2 k j)) = _
  rw [(tables m c).2.1, emb4]
  show Ideal.ofBits .f32 (lit1 (S56x16.rowMajor (ix2 k j))) = _
  rw [table1]
  split
  · rw [ofBits_1]; rfl
  · rw [ofBits_0]; rfl

/-- The third table's block. -/
theorem block5 (c : Dev nD) (t : Fin cfg0.N) (k : Fin 56) :
    iblk m c 5 t (ix2 k 0) = if k.val < 50 then (0 : EReal) else ⊥ := by
  show V m c main_cst_1 (((cfg0.win 5).blk t).view.emb (ix2 k 0)) = _
  rw [(tables m c).2.2, emb5]
  show Ideal.ofBits .f32 (lit2 (S56x1.rowMajor (ix2 k 0))) = _
  rw [table2]
  split
  · rw [ofBits_0]; rfl
  · rw [ofBits_bot]

/-- Where an index of an output block lies in its array. -/
theorem emb6 (t : Fin cfg0.N) (l : Fin 512) (j : Fin 128) : ((cfg0.win 6).blk t).view.emb (ix2 l j) = ix2 (token t l) j := by
  blk_ext [token, places t]

/-- Likewise for the second output. -/
theorem emb7 (t : Fin cfg0.N) (l : Fin 512) (j : Fin 128) : ((cfg0.win 7).blk t).view.emb (ix2 l j) = ix2 (token t l) j := by
  blk_ext [token, places t]

end Cert.Proof.TopK

end
-- ==== Proof.TopKValue.lean ====
/- The arrays that the selection's kernel leaves: the reference's two results of its arguments. -/
module

public import proofs.«01_k».proof.Proof.TopKEntry

@[expose] public section

set_option maxRecDepth 16384

noncomputable section

namespace Cert.Proof.TopK

open Cert.TopKIdeal Cert.TopKIdeal.Gen Cert.Ranking Cert.Proof.MixOut
open Idealize.ShloMosaic Idealize.ShloMosaic.TcCoe Idealize.SL.Sem

variable (m : (ℓ : Loc nD τ sig) → Buf (Elt Ideal) ℓ)

/-- The three arguments. -/
abbrev stream (c : Dev nD) : FVec Ideal S65536x1024 .f32 := m ((c : Thread nD τ).loc main_arg0)
/-- The matrix of the queries. -/
abbrev queryMatrix (c : Dev nD) : FVec Ideal S1024x2048 .f32 := m ((c : Thread nD τ).loc main_arg1)
/-- The keys. -/
abbrev keyRows (c : Dev nD) : FVec Ideal S8x2x128x128 .f32 := m ((c : Thread nD τ).loc main_arg2)

/-- The three arguments hold real numbers. -/
def RealArgs (c : Dev nD) : Prop :=
  (∀ t d, IsReal (stream m c (ix2 t d))) ∧ (∀ d j, IsReal (queryMatrix m c (ix2 d j))) ∧ ∀ h p a d, IsReal (keyRows m c (ix4 h p a d))

/-- The reference's scores of the arguments. -/
abbrev scoresOf (c : Dev nD) : FVec Ideal Cert.TopKRefIdeal.S65536x8x2x128 .f32 := refScores (stream m c) (queryMatrix m c) (keyRows m c)

/-- They are not negative infinity. -/
theorem scores_ne_bot (c : Dev nD) (hr : RealArgs m c) (t : Fin 65536) (h : Fin 8) (p : Fin 2) (j : Fin 128) : half (scoresOf m c) t h p j ≠ ⊥ := by
  have e : IsReal (half (scoresOf m c) t h p j) := by
    rw [show half (scoresOf m c) t h p j = _ from refScores_at (stream m c) (queryMatrix m c) (keyRows m c) t h p j]
    exact IsReal.sum fun d => (hr.2.2 h p j d).mul (IsReal.sum fun k => (hr.1 t k).mul (hr.2.1 k _))
  obtain ⟨x, e⟩ := e
  rw [e]
  exact EReal.coe_ne_bot x

/-- A block's scores from the entries of the three operands. -/
theorem blockScores_at (x0 : FVec Ideal S512x1024 .f32) (x1 : FVec Ideal S2048x1024 .bf16) (x2 : FVec Ideal S16x128x128 .bf16) (l : Fin 512) (n : Fin 16)
    (a : Fin 1024 → EReal) (w : Fin 1024 → Fin 2048 → EReal) (k : Fin 128 → Fin 128 → EReal) (ha : ∀ e, x0 (ix2 l e) = a e)
    (hw : ∀ j e, x1 (ix2 j e) = w e j) (hk : ∀ b d, x2 (ix3 n b d) = k b d) (j : Fin 128) :
    column (blockScores (queries x0 x1) x2 n) l j = ∑ d : Fin 128, k j d * ∑ e : Fin 1024, a e * w e ⟨128 * n.val + d.val, by omega⟩ := by
  show (∑ d : Fin 128, x2 (ix3 n j d) * queries x0 x1 (ix2 ⟨128 * n.val + d.val, by omega⟩ l)) = _
  refine Finset.sum_congr rfl fun d _ => ?_
  rw [hk, queries_at]
  refine congrArg (k j d * ·) (Finset.sum_congr rfl fun e _ => ?_)
  rw [ha, hw, mul_comm]

/-- The kernel's scores of a token, head and half are the reference's. -/
theorem scores_point (c : Dev nD) (t : Fin cfg0.N) (l : Fin 512) (h : Fin 8) (p : Fin 2) :
    column (blockScores (queries (iblk m c 0 t) (iblk m c 1 t)) (iblk m c 2 t) ⟨2 * h.val + p.val, by omega⟩) l
      = half (scoresOf m c) (token t l) h p := by
  funext j
  refine Eq.trans (blockScores_at _ _ _ l _ (fun e => stream m c (ix2 (token t l) e)) (fun e j => queryMatrix m c (ix2 e j))
    (fun b d => keyRows m c (ix4 h p b d)) (fun e => block0 m c t l e) (fun j e => block1 m c t j e) (fun b d => block2 m c t h p b d) j) ?_
  refine Eq.trans ?_ (refScores_at (stream m c) (queryMatrix m c) (keyRows m c) (token t l) h p j).symm
  refine Finset.sum_congr rfl fun d _ => congrArg (keyRows m c (ix4 h p j d) * ·) (Finset.sum_congr rfl fun k _ => ?_)
  exact congrArg (fun i : Fin 2048 => stream m c (ix2 (token t l) k) * queryMatrix m c (ix2 k i)) (Fin.ext (by dsimp only; omega))

/-- The first half's, and the second's. -/
theorem scores_first (c : Dev nD) (t : Fin cfg0.N) (l : Fin 512) (h : Fin 8) :
    column (blockScores (queries (iblk m c 0 t) (iblk m c 1 t)) (iblk m c 2 t) ⟨2 * h.val, by omega⟩) l = half (scoresOf m c) (token t l) h 0 :=
  scores_point m c t l h 0

/-- The second half's. -/
theorem scores_second (c : Dev nD) (t : Fin cfg0.N) (l : Fin 512) (h : Fin 8) :
    column (blockScores (queries (iblk m c 0 t) (iblk m c 1 t)) (iblk m c 2 t) ⟨2 * h.val + 1, by omega⟩) l = half (scoresOf m c) (token t l) h 1 :=
  scores_point m c t l h 1

/-- A table loaded whole is the table. -/
theorem load_table (x : Vec Ideal S56x16 .f32) : View.ld x r0_1 = x := by
  rw [View.ld_unit_zero (S := S56x16) (by funext i; fin_cases i <;> rfl)]

/-- So for the other operands. -/
theorem load_pad (x : Vec Ideal S56x1 .f32) : View.ld x r0_5 = x := by
  rw [View.ld_unit_zero (S := S56x1) (by funext i; fin_cases i <;> rfl)]

/-- So for the stream, -/
theorem load_stream (x : Vec Ideal S512x1024 .f32) : View.ld x r0_0 = x := by
  rw [View.ld_unit_zero (S := S512x1024) (by funext i; fin_cases i <;> rfl)]

/-- and the matrix. -/
theorem load_matrix (x : Vec Ideal S2048x1024 .bf16) : View.ld x r0_2 = x := by
  rw [View.ld_unit_zero (S := S2048x1024) (by funext i; fin_cases i <;> rfl)]

/-- One store over a whole buffer leaves what was stored. -/
theorem store_whole {e : EltTy} (v : Vec Ideal S512x128 e) : View.canon [(⟨r0_20, v⟩ : View.Piece (Elt Ideal) S512x128 e)] = v :=
  View.canon_cons_unit_lit _ v [] (by intro a; fin_cases a <;> rfl)

/-- The gates that a grid point computes. -/
theorem gates_point (c : Dev nD) (hr : RealArgs m c) (t : Fin cfg0.N) (l : Fin 512) (h : Fin 8) (r : Fin 16) :
    heads (headGates (iblk m c 3 t) (iblk m c 4 t) (iblk m c 5 t)) (queries (iblk m c 0 t) (iblk m c 1 t)) (iblk m c 2 t) (ix2 l ⟨h.val * 16 + r.val, by omega⟩)
      = refGates (scoresOf m c) (ix2 (token t l) ⟨h.val * 16 + r.val, by omega⟩) := by
  rw [heads_at, headGates_at _ _ _ (block3 m c t) (block4 m c t) (block5 m c t) _ _ l
    (fun j => by rw [scores_first]; exact scores_ne_bot m c hr _ _ _ j)
    (fun j => by rw [scores_second]; exact scores_ne_bot m c hr _ _ _ j), refGates_at]
  rw [scores_first, scores_second]
  simp only [best_pair]

/-- The numbers that a grid point computes. -/
theorem numbers_point (c : Dev nD) (hr : RealArgs m c) (t : Fin cfg0.N) (l : Fin 512) (h : Fin 8) (r : Fin 16) :
    heads (headNumbers (iblk m c 3 t) (iblk m c 4 t) (iblk m c 5 t)) (queries (iblk m c 0 t) (iblk m c 1 t)) (iblk m c 2 t) (ix2 l ⟨h.val * 16 + r.val, by omega⟩)
      = ((expert (half (scoresOf m c) (token t l) h 0) (half (scoresOf m c) (token t l) h 1) r : ℝ) : EReal) := by
  rw [heads_at, headNumbers_eq _ _ _ (block3 m c t) (block4 m c t) (block5 m c t) _ _ l
    (fun j => by rw [scores_first]; exact scores_ne_bot m c hr _ _ _ j)
    (fun j => by rw [scores_second]; exact scores_ne_bot m c hr _ _ _ j)]
  rw [scores_first, scores_second]

/-- A column of a result is a head and a rank. -/
theorem split_column (j : Fin 128) : ∃ (h : Fin 8) (r : Fin 16), j = ⟨h.val * 16 + r.val, by omega⟩ :=
  ⟨⟨j.val / 16, by omega⟩, ⟨j.val % 16, by omega⟩, Fin.ext (by dsimp only; omega)⟩

set_option maxHeartbeats 1600000 in
/-- The array of the experts' first rows after the run. -/
theorem final6 (c : Dev nD) (hr : RealArgs m c) : (dats m 0 c).arrAt 6 (cfgs 0).N = refRows (scoresOf m c) := by
  refine (dats m 0 c).arrAt_eq_of_covers 6 _ (by decide +kernel) fun t hf y => ?_
  blk_simp; rw [after0_6, out_rows, load_table, load_table, load_pad, load_stream, load_matrix, store_whole]
  obtain ⟨l, j, rfl⟩ : ∃ (l : Fin 512) (j : Fin 128), y = ix2 l j := ⟨y 0, y 1, eq_ix2 y⟩
  obtain ⟨h, r, rfl⟩ := split_column j
  rw [emb6]
  refine (asRows_at _ l _ _ (expert_lt _ _ _) (numbers_point m c hr t l h r)).trans ?_
  rw [refRows_at, taken_pair]

set_option maxHeartbeats 1600000 in
/-- The array of the gates after the run. -/
theorem final7 (c : Dev nD) (hr : RealArgs m c) : (dats m 0 c).arrAt 7 (cfgs 0).N = refGates (scoresOf m c) := by
  refine (dats m 0 c).arrAt_eq_of_covers 7 _ (by decide +kernel) fun t hf y => ?_
  blk_simp; rw [after0_7, out_gates, load_table, load_table, load_pad, load_stream, load_matrix, store_whole]
  obtain ⟨l, j, rfl⟩ : ∃ (l : Fin 512) (j : Fin 128), y = ix2 l j := ⟨y 0, y 1, eq_ix2 y⟩
  obtain ⟨h, r, rfl⟩ := split_column j
  rw [emb7]
  exact gates_point m c hr t l h r

end Cert.Proof.TopK

end
-- ==== Proof.TopKClaims.lean ====
/- The claims about the selection of experts: the runs of each program, and that the results agree. -/
module

public import proofs.«01_k».proof.Defs
public import proofs.«01_k».proof.Proof.Gen.TopK.Frame
public import proofs.«01_k».proof.Proof.Gen.Pre_finite_scores
public import proofs.«01_k».proof.Proof.TopKValue
public import Idealize.ShloMosaic.Lib.ReduceAll

@[expose] public section

noncomputable section

namespace Cert.Proof.TopK

open Cert.Proof.MixOut
open Idealize.ShloMosaic Idealize.ShloMosaic.TcCoe Idealize.SL.Sem

/-- The kernel at the machine's floats runs to an end and leaves its arguments. -/
theorem quiet_kernel : quiescent_TopK := fun m g _ => Cert.TopK.Gen.frame m g

/-- The kernel over the extended reals runs to an end and leaves its arguments. -/
theorem quiet_ideal : quiescent_TopKIdeal := fun m g _ => Cert.TopKIdeal.Gen.frame m g

/-- So it does from the arguments that the value claim admits. -/
theorem quiet_ideal_finite : quiescent_TopKIdeal_pre_finite_scores := fun m g _ => Cert.TopKIdeal.Gen.frame m g

/-- The reference runs to an end and leaves its arguments. -/
theorem quiet_ref : quiescent_TopKRefIdeal := fun m g _ =>
  (θ_run Cert.TopKRefIdeal.defs _ _).mono (fun r h => ⟨fun c => (h c).2.2, sem_eq_zero_of_no_sems (by decide) r.2⟩) (ref_run m g)

/-- So it does from the arguments that the value claim admits. -/
theorem quiet_ref_finite : quiescent_TopKRefIdeal_pre_finite_scores := fun m g _ =>
  (θ_run Cert.TopKRefIdeal.defs _ _).mono (fun r h => ⟨fun c => (h c).2.2, sem_eq_zero_of_no_sems (by decide) r.2⟩) (ref_run m g)

/-- Nothing was rewritten in the kernel's text. -/
theorem preserved : preserves_TopK_TopKIdeal := trivial

/-- A number whose absolute value compares below infinity is real. -/
theorem isReal_of_below {x : EReal} (h : BitVec.ofBool (decide (max x (-x) < ⊤)) = 1#1) : IsReal x := by
  have h' : max x (-x) < ⊤ := by
    by_contra n
    rw [decide_eq_false n] at h
    exact absurd h (by decide)
  induction x using EReal.rec with
  | bot => simp at h'
  | top => simp at h'
  | coe r => exact ⟨r, rfl⟩

/-- A conjunction of two bits that is one has both bits one. -/
theorem both_of_and : ∀ a b : BitVec 1, IntOp.andi a b = 1#1 → a = 1#1 ∧ b = 1#1 := by decide

/-- The precondition says that the three arguments hold real numbers. -/
theorem real_of_pre (m : (ℓ : Loc Cert.TopKIdeal.nD Cert.TopKIdeal.τ Cert.TopKIdeal.sig) → Buf (Elt Ideal) ℓ)
    (h : Pre_TopKIdeal_finite_scores m) (c : Dev Cert.TopKIdeal.nD) : RealArgs m c := by
  have e := congrFun (h c) (fun a => a.elim0)
  obtain ⟨e01, e2⟩ := both_of_and _ _ e
  obtain ⟨e0, e1⟩ := both_of_and _ _ e01
  refine ⟨fun t d => ?_, fun d j => ?_, fun h p a d => ?_⟩
  · have k := Host.reduce_andi_all _ _ _ _ _ e0 (ix2 t d)
    pointwise at k
    rw [ofBits_top] at k
    exact isReal_of_below k
  · have k := Host.reduce_andi_all _ _ _ _ _ e1 (ix2 d j)
    pointwise at k
    rw [ofBits_top] at k
    exact isReal_of_below k
  · have k := Host.reduce_andi_all _ _ _ _ _ e2 (ix4 h p a d)
    pointwise at k
    rw [ofBits_top] at k
    exact isReal_of_below k

section Run

open Cert.TopKIdeal Cert.TopKIdeal.Gen

/-- The kernel's run: its two results are the arrays that the grid's points filled, and its arguments stay. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c : Thread nD τ).loc main_v4_0) = (dats m 0 c).arrAt 6 (cfgs 0).N
        ∧ r.2.mem ((c : Thread nD τ).loc main_v4_1) = (dats m 0 c).arrAt 7 (cfgs 0).N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  have arrays : θ_run defs (onTc (τ := τ) (main (F := Ideal))) ⟨m, fun _ => 0, ρ⟩ fun r => ∀ c : Dev nD,
      r.2.mem ((c : Thread nD τ).loc main_v4_0) = (dats m 0 c).arrAt 6 (cfgs 0).N
        ∧ r.2.mem ((c : Thread nD τ).loc main_v4_1) = (dats m 0 c).arrAt 7 (cfgs 0).N :=
    (θ_run defs _ _).mono (fun _ h c => ⟨(h c).1 6, (h c).1 7⟩) (run_main m ρ)
  (θ_run defs _ _).mono (fun _ h c => ⟨h.1 c, h.2 c⟩) (θ_run_and arrays (unchanged m ρ))

end Run

/-- Over the extended reals the kernel's two results are the reference's. -/
theorem agree : algebraic_TopKIdeal_TopKRefIdeal_pre_finite_scores := fun m g m' g' hp hag =>
  ⟨_, _, (θ_run Cert.TopKIdeal.defs _ _).mono (fun _ h c =>
      ⟨(h c).1.1.trans (final6 m c (real_of_pre m hp c)), (h c).1.2.trans (final7 m c (real_of_pre m hp c)), (h c).2⟩)
      (kernel_run m g),
    (θ_run Cert.TopKRefIdeal.defs _ _).mono (fun _ h c => by
      obtain ⟨a0, a1, a2⟩ := hag c
      have k := h c
      rw [a0, a1, a2] at k
      rw [a0, a1, a2]
      exact k) (ref_run m' g')⟩

end Cert.Proof.TopK

end
-- ==== Proof.lean ====
/- The claims of this certificate, each proved in the module of the call it speaks of. -/
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.TopK
public import proofs.«01_k».proof.Proof.Gen.TopK.Skeleton
public import proofs.«01_k».proof.Proof.Gen.TopK.Launch
public import proofs.«01_k».proof.Proof.Gen.TopK.Points
public import proofs.«01_k».proof.Proof.Gen.TopK.Frame
public import proofs.«01_k».proof.Proof.Gen.TopKIdeal
public import proofs.«01_k».proof.Proof.Gen.TopKIdeal.Skeleton
public import proofs.«01_k».proof.Proof.Gen.TopKIdeal.Launch
public import proofs.«01_k».proof.Proof.Gen.TopKIdeal.Points
public import proofs.«01_k».proof.Proof.Gen.TopKIdeal.Frame
public import proofs.«01_k».proof.Proof.Gen.TopKRefIdeal
public import proofs.«01_k».proof.Proof.Gen.Pre_finite_streams
public import proofs.«01_k».proof.Proof.Gen.Pre_finite_scores
public import proofs.«01_k».proof.Proof.InProjClaims
public import proofs.«01_k».proof.Proof.MixOutClaims
public import proofs.«01_k».proof.Proof.TopKClaims

@[expose] public section

noncomputable section

namespace Cert.Proof

theorem claim : Cert.Claim :=
  ⟨Cert.InProj.Gen.facts, Cert.InProjIdeal.Gen.facts, Cert.InProjRefIdeal.Gen.facts,
    Cert.MixOut.Gen.facts, Cert.MixOutIdeal.Gen.facts, Cert.MixOutRefIdeal.Gen.facts,
    Cert.TopK.Gen.facts, Cert.TopKIdeal.Gen.facts, Cert.TopKRefIdeal.Gen.facts,
    Cert.Pre_finite_streams.Gen.facts, Cert.Pre_finite_scores.Gen.facts,
    InProj.quiet_kernel, InProj.quiet_ideal, InProj.quiet_ref,
    MixOut.quiet_kernel, MixOut.quiet_ideal, MixOut.quiet_ideal_finite, MixOut.quiet_ref, MixOut.quiet_ref_finite,
    TopK.quiet_kernel, TopK.quiet_ideal, TopK.quiet_ideal_finite, TopK.quiet_ref, TopK.quiet_ref_finite,
    InProj.preserved, InProj.agree, MixOut.preserved, MixOut.agree,
    TopK.preserved, TopK.agree⟩

end Cert.Proof

end
